-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_near_true_angles [hKernelIdeal : Cert.KernelIdeal.Facts] [hPost_near_true_angles : Cert.Post_near_true_angles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_near_true_angles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v10))) = (fun _ => 1#1))

def Claim : Prop :=
  ∃ (hKernel : Cert.Kernel.Facts) (hKernelIdeal : Cert.KernelIdeal.Facts) (hReferenceIdeal : Cert.ReferenceIdeal.Facts) (hPost_near_true_angles : Cert.Post_near_true_angles.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near_true_angles (hKernelIdeal := hKernelIdeal) (hPost_near_true_angles := hPost_near_true_angles)
-- ==== Post_near_true_angles.lean ====
abbrev S1x2 : Shape := ⟨2, ![1, 2]⟩
abbrev S4194304 : Shape := ⟨1, ![4194304]⟩
abbrev S4194304x2 : Shape := ⟨2, ![4194304, 2]⟩
abbrev S_ : Shape := ⟨0, ![]⟩
abbrev S4194304x1 : Shape := ⟨2, ![4194304, 1]⟩
abbrev S1 : Shape := ⟨1, ![1]⟩
abbrev S1x1 : Shape := ⟨2, ![1, 1]⟩

class Facts : Prop where
  bcast_S_S4194304x2 : S_.BroadcastsInDim S4194304x2 (![] : Fin 0 → Fin S4194304x2.rank)
  slices_S4194304x2_S4194304x1_0_0 : S4194304x2.Slices ![0, 0] S4194304x1
  shapeCasts_S4194304x1_S4194304 : S4194304x1.ShapeCasts S4194304
  slices_S4194304x2_S4194304x1_0_1 : S4194304x2.Slices ![0, 1] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  reducesTo_S1x2_S1_d1 : S1x2.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  slices_S1x2_S1x1_0_1 : S1x2.Slices ![0, 1] S1x1
  shapeCasts_S1x1_S_ : S1x1.ShapeCasts S_
  bcast_S4194304x1_S4194304x2_0_1 : S4194304x1.BroadcastsInDim S4194304x2 (![0, 1] : Fin 2 → Fin S4194304x2.rank)
  bcast_S_S4194304x1 : S_.BroadcastsInDim S4194304x1 (![] : Fin 0 → Fin S4194304x1.rank)

variable [Facts]

def fn_part4 {F : FTy → Type} [FloatOps F] (main_arg4 : FVec F S4194304x2 .f32) (main_v76 : FVec F S4194304x2 .f32) (main_v77 : FVec F S4194304 .f32) (main_v78 : FVec F S4194304 .f32) : IVec S4194304x2 1 :=
  let main_v79 : FVec F S4194304 .f32 := maximumf main_v77 main_v78
  let main_v80 : FVec F S4194304x1 .f32 := broadcastInDim S4194304x1 ![0] bcast_S4194304_S4194304x1_0 main_v79
  let main_v81 : IVec S4194304x2 1 := cmpf .oeq main_arg4 main_v76
  let main_v82 : FVec F S4194304x2 .f32 := subf main_arg4 main_v76
  let main_v83 : FVec F S4194304x2 .f32 := Host.absf main_v82
  let main_cst_16 : FVec F S_ .f32 := constant S_ .f32 0x368637BD#32
  let main_v84 : FVec F S4194304x1 .f32 := broadcastInDim S4194304x1 ![] bcast_S_S4194304x1 main_cst_16
  let main_v85 : FVec F S4194304x1 .f32 := mulf main_v84 main_v80
  let main_v86 : FVec F S4194304x2 .f32 := broadcastInDim S4194304x2 ![0, 1] bcast_S4194304x1_S4194304x2_0_1 main_v85
  let main_v87 : IVec S4194304x2 1 := cmpf .ole main_v83 main_v86
  let main_v88 : IVec S4194304x2 1 := ori main_v81 main_v87
  main_v88

def fn_part3 {F : FTy → Type} [FloatOps F] (main_arg0 : FVec F S1x2 .f32) (main_arg1 : FVec F S4194304 .f32) (main_arg3 : FVec F S4194304x2 .f32) (main_arg4 : FVec F S4194304x2 .f32) (main_v5 : FVec F S4194304 .f32) (main_v7 : FVec F S4194304 .f32) (main_v55 : FVec F S4194304x2 .f32) (main_v56 : FVec F S1 .f32) (main_cst_13 : FVec F S_ .f32) : IVec S4194304x2 1 :=
  let main_v57 : FVec F S1 .f32 := broadcastInDim S1 ![] bcast_S_S1 main_cst_13
  let main_v58 : FVec F S1 .f32 := maximumf main_v57 main_v56
  let main_v59 : FVec F S1x1 .f32 := broadcastInDim S1x1 ![0] bcast_S1_S1x1_0 main_v58
  let main_v60 : FVec F S1x2 .f32 := broadcastInDim S1x2 ![0, 1] bcast_S1x1_S1x2_0_1 main_v59
  let main_v61 : FVec F S1x2 .f32 := subf main_arg0 main_v60
  let main_v62 : FVec F S1x2 .f32 := Host.exp main_v61
  let main_cst_14 : FVec F S_ .f32 := constant S_ .f32 0x00000000#32
  let main_v63 : FVec F S1 .f32 := (fun x v => Host.reduceAdd x v reducesTo_S1x2_S1_d1 h_S_) main_v62 main_cst_14
  let main_v64 : FVec F S1x1 .f32 := broadcastInDim S1x1 ![0] bcast_S1_S1x1_0 main_v63
  let main_v65 : FVec F S1x2 .f32 := broadcastInDim S1x2 ![0, 1] bcast_S1x1_S1x2_0_1 main_v64
  let main_v66 : FVec F S1x2 .f32 := Host.divf main_v62 main_v65
  let main_v67 : FVec F S1x1 .f32 := (extractStridedSlice S1x1 ![0, 1] · slices_S1x2_S1x1_0_1) main_v66
  let main_v68 : FVec F S_ .f32 := shapeCast S_ main_v67 shapeCasts_S1x1_S_
  let main_v69 : FVec F S4194304 .f32 := broadcastInDim S4194304 ![] bcast_S_S4194304 main_v68
  let main_v70 : IVec S4194304 1 := cmpf .olt main_arg1 main_v69
  let main_v71 : IVec S4194304x1 1 := broadcastInDim S4194304x1 ![0] bcast_S4194304_S4194304x1_0 main_v70
  let main_v72 : IVec S4194304x2 1 := broadcastInDim S4194304x2 ![0, 1] bcast_S4194304x1_S4194304x2_0_1 main_v71
  let main_cst_15 : FVec F S_ .f32 := constant S_ .f32 0x3DCCCCCD#32
  let main_v73 : FVec F S_ .f32 := Host.sqrt main_cst_15
  let main_v74 : FVec F S4194304x2 .f32 := broadcastInDim S4194304x2 ![] bcast_S_S4194304x2 main_v73
  let main_v75 : FVec F S4194304x2 .f32 := mulf main_arg3 main_v74
  let main_v76 : FVec F S4194304x2 .f32 := select main_v72 main_v55 main_v75
  let main_v77 : FVec F S4194304 .f32 := Host.absf main_v5
  let main_v78 : FVec F S4194304 .f32 := Host.absf main_v7
  fn_part4 (F := F) main_arg4 main_v76 main_v77 main_v78

def fn_part2 {F : FTy → Type} [FloatOps F] (main_arg0 : FVec F S1x2 .f32) (main_arg1 : FVec F S4194304 .f32) (main_arg3 : FVec F S4194304x2 .f32) (main_arg4 : FVec F S4194304x2 .f32) (main_v5 : FVec F S4194304 .f32) (main_v7 : FVec F S4194304 .f32) (main_v17 : IVec S4194304 1) (main_v19 : IVec S4194304 1) (main_v23 : FVec F S4194304 .f32) (main_v28 : FVec F S4194304 .f32) (main_v33 : FVec F S4194304 .f32) (main_v36 : FVec F S4194304 .f32) (main_v37 : FVec F S4194304 .f32) : IVec S4194304x2 1 :=
  let main_v38 : FVec F S4194304 .f32 := subf main_v37 main_v36
  let main_v39 : FVec F S4194304 .f32 := Host.cos main_v38
  let main_v40 : FVec F S4194304 .f32 := mulf main_v7 main_v39
  let main_cst_9 : FVec F S_ .f32 := constant S_ .f32 0x41490FDB#32
  let main_v41 : FVec F S4194304 .f32 := broadcastInDim S4194304 ![] bcast_S_S4194304 main_cst_9
  let main_v42 : FVec F S4194304 .f32 := mulf main_v41 main_v5
  let main_v43 : FVec F S4194304 .f32 := Host.divf main_v42 main_v23
  let main_cst_10 : FVec F S_ .f32 := constant S_ .f32 0x40C90FDB#32
  let main_v44 : FVec F S4194304 .f32 := broadcastInDim S4194304 ![] bcast_S_S4194304 main_cst_10
  let main_v45 : FVec F S4194304 .f32 := subf main_v44 main_v43
  let main_v46 : FVec F S4194304 .f32 := Host.sin main_v45
  let main_v47 : FVec F S4194304 .f32 := mulf main_v7 main_v46
  let main_cst_11 : FVec F S_ .f32 := constant S_ .f32 0x00000000#32
  let main_v48 : FVec F S4194304 .f32 := broadcastInDim S4194304 ![] bcast_S_S4194304 main_cst_11
  let main_v49 : FVec F S4194304 .f32 := select main_v19 main_v40 main_v48
  let main_v50 : FVec F S4194304 .f32 := select main_v17 main_v28 main_v49
  let main_v51 : FVec F S4194304 .f32 := select main_v19 main_v47 main_v48
  let main_v52 : FVec F S4194304 .f32 := select main_v17 main_v33 main_v51
  let main_v53 : FVec F S4194304x1 .f32 := broadcastInDim S4194304x1 ![0] bcast_S4194304_S4194304x1_0 main_v50
  let main_v54 : FVec F S4194304x1 .f32 := broadcastInDim S4194304x1 ![0] bcast_S4194304_S4194304x1_0 main_v52
  let main_v55 : FVec F S4194304x2 .f32 := (fun a b => concatenate S4194304x2 1 [⟨S4194304x1, a⟩, ⟨S4194304x1, b⟩] concatenates_S4194304x1_S4194304x1_S4194304x2_d1) main_v53 main_v54
  let main_cst_12 : FVec F S_ .f32 := constant S_ .f32 0xFF800000#32
  let main_v56 : FVec F S1 .f32 := (fun x v => Host.reduce FloatOps.maximumf x v reducesTo_S1x2_S1_d1 h_S_) main_arg0 main_cst_12
  let main_cst_13 : FVec F S_ .f32 := constant S_ .f32 0xFF800000#32
  fn_part3 (F := F) main_arg0 main_arg1 main_arg3 main_arg4 main_v5 main_v7 main_v55 main_v56 main_cst_13

def fn_part1 {F : FTy → Type} [FloatOps F] (main_arg0 : FVec F S1x2 .f32) (main_arg1 : FVec F S4194304 .f32) (main_arg3 : FVec F S4194304x2 .f32) (main_arg4 : FVec F S4194304x2 .f32) (main_v5 : FVec F S4194304 .f32) (main_v7 : FVec F S4194304 .f32) (main_v17 : IVec S4194304 1) (main_v19 : IVec S4194304 1) : IVec S4194304x2 1 :=
  let main_cst_3 : FVec F S_ .f32 := constant S_ .f32 0x3F800000#32
  let main_v20 : FVec F S4194304 .f32 := broadcastInDim S4194304 ![] bcast_S_S4194304 main_cst_3
  let main_v21 : FVec F S4194304 .f32 := select main_v17 main_v5 main_v20
  let main_cst_4 : FVec F S_ .f32 := constant S_ .f32 0x3F800000#32
  let main_v22 : FVec F S4194304 .f32 := broadcastInDim S4194304 ![] bcast_S_S4194304 main_cst_4
  let main_v23 : FVec F S4194304 .f32 := select main_v19 main_v7 main_v22
  let main_cst_5 : FVec F S_ .f32 := constant S_ .f32 0x41490FDB#32
  let main_v24 : FVec F S4194304 .f32 := broadcastInDim S4194304 ![] bcast_S_S4194304 main_cst_5
  let main_v25 : FVec F S4194304 .f32 := mulf main_v24 main_v7
  let main_v26 : FVec F S4194304 .f32 := Host.divf main_v25 main_v21
  let main_v27 : FVec F S4194304 .f32 := Host.cos main_v26
  let main_v28 : FVec F S4194304 .f32 := mulf main_v5 main_v27
  let main_cst_6 : FVec F S_ .f32 := constant S_ .f32 0x41490FDB#32
  let main_v29 : FVec F S4194304 .f32 := broadcastInDim S4194304 ![] bcast_S_S4194304 main_cst_6
  let main_v30 : FVec F S4194304 .f32 := mulf main_v29 main_v7
  let main_v31 : FVec F S4194304 .f32 := Host.divf main_v30 main_v21
  let main_v32 : FVec F S4194304 .f32 := Host.sin main_v31
  let main_v33 : FVec F S4194304 .f32 := mulf main_v5 main_v32
  let main_cst_7 : FVec F S_ .f32 := constant S_ .f32 0x41490FDB#32
  let main_v34 : FVec F S4194304 .f32 := broadcastInDim S4194304 ![] bcast_S_S4194304 main_cst_7
  let main_v35 : FVec F S4194304 .f32 := mulf main_v34 main_v5
  let main_v36 : FVec F S4194304 .f32 := Host.divf main_v35 main_v23
  let main_cst_8 : FVec F S_ .f32 := constant S_ .f32 0x40C90FDB#32
  let main_v37 : FVec F S4194304 .f32 := broadcastInDim S4194304 ![] bcast_S_S4194304 main_cst_8
  fn_part2 (F := F) main_arg0 main_arg1 main_arg3 main_arg4 main_v5 main_v7 main_v17 main_v19 main_v23 main_v28 main_v33 main_v36 main_v37

def fn {F : FTy → Type} [FloatOps F] (main_arg0 : FVec F S1x2 .f32) (main_arg1 : FVec F S4194304 .f32) (main_arg2 : FVec F S4194304x2 .f32) (main_arg3 : FVec F S4194304x2 .f32) (main_arg4 : FVec F S4194304x2 .f32) : IVec S4194304x2 1 :=
  let main_cst : FVec F S_ .f32 := constant S_ .f32 0x40000000#32
  let main_v0 : FVec F S4194304x2 .f32 := broadcastInDim S4194304x2 ![] bcast_S_S4194304x2 main_cst
  let main_v1 : FVec F S4194304x2 .f32 := mulf main_arg2 main_v0
  let main_cst_0 : FVec F S_ .f32 := constant S_ .f32 0x3F800000#32
  let main_v2 : FVec F S4194304x2 .f32 := broadcastInDim S4194304x2 ![] bcast_S_S4194304x2 main_cst_0
  let main_v3 : FVec F S4194304x2 .f32 := subf main_v1 main_v2
  let main_v4 : FVec F S4194304x1 .f32 := (extractStridedSlice S4194304x1 ![0, 0] · slices_S4194304x2_S4194304x1_0_0) main_v3
  let main_v5 : FVec F S4194304 .f32 := shapeCast S4194304 main_v4 shapeCasts_S4194304x1_S4194304
  let main_v6 : FVec F S4194304x1 .f32 := (extractStridedSlice S4194304x1 ![0, 1] · slices_S4194304x2_S4194304x1_0_1) main_v3
  let main_v7 : FVec F S4194304 .f32 := shapeCast S4194304 main_v6 shapeCasts_S4194304x1_S4194304
  let main_cst_1 : FVec F S_ .f32 := constant S_ .f32 0x00000000#32
  let main_v8 : FVec F S4194304 .f32 := broadcastInDim S4194304 ![] bcast_S_S4194304 main_cst_1
  let main_v9 : IVec S4194304 1 := cmpf .oeq main_v5 main_v8
  let main_cst_2 : FVec F S_ .f32 := constant S_ .f32 0x00000000#32
  let main_v10 : FVec F S4194304 .f32 := broadcastInDim S4194304 ![] bcast_S_S4194304 main_cst_2
  let main_v11 : IVec S4194304 1 := cmpf .oeq main_v7 main_v10
  let main_v12 : IVec S4194304 1 := andi main_v9 main_v11
  let main_v13 : IVec S4194304 1 := noti main_v12
  let main_v14 : FVec F S4194304 .f32 := Host.absf main_v5
  let main_v15 : FVec F S4194304 .f32 := Host.absf main_v7
  let main_v16 : IVec S4194304 1 := cmpf .ogt main_v14 main_v15
  let main_v17 : IVec S4194304 1 := andi main_v16 main_v13
  let main_v18 : IVec S4194304 1 := noti main_v17
  let main_v19 : IVec S4194304 1 := andi main_v18 main_v13
  fn_part1 (F := F) main_arg0 main_arg1 main_arg3 main_arg4 main_v5 main_v7 main_v17 main_v19
-- ==== Kernel.lean ====
abbrev S1x2 : Shape := ⟨2, ![1, 2]⟩
abbrev S4194304 : Shape := ⟨1, ![4194304]⟩
abbrev S4194304x2 : Shape := ⟨2, ![4194304, 2]⟩
abbrev S32768x128 : Shape := ⟨2, ![32768, 128]⟩
abbrev S32768x128x2 : Shape := ⟨3, ![32768, 128, 2]⟩
abbrev S32768x2x128 : Shape := ⟨3, ![32768, 2, 128]⟩
abbrev S65536x128 : Shape := ⟨2, ![65536, 128]⟩
abbrev S8x512x128 : Shape := ⟨3, ![8, 512, 128]⟩
abbrev S8x1024x128 : Shape := ⟨3, ![8, 1024, 128]⟩
abbrev S8 : Shape := ⟨1, ![8]⟩
abbrev S1x1 : Shape := ⟨2, ![1, 1]⟩
abbrev S8x128 : Shape := ⟨2, ![8, 128]⟩
abbrev S1 : Shape := ⟨1, ![1]⟩
abbrev S_ : Shape := ⟨0, ![]⟩
abbrev S1x512x128 : Shape := ⟨3, ![1, 512, 128]⟩
abbrev S512x128 : Shape := ⟨2, ![512, 128]⟩
abbrev S1x1024x128 : Shape := ⟨3, ![1, 1024, 128]⟩
abbrev S1024x128 : Shape := ⟨2, ![1024, 128]⟩
abbrev S1x128 : Shape := ⟨2, ![1, 128]⟩

abbrev nBuf : Space → Nat
  | .hbm => 15
  | .vmem => 4
  | .smem => 1
  | _ => 0

abbrev bufTy : (tb : Table) → Fin (tcTables nBuf tb) → BufTy
  | .hbm, ⟨0, _⟩ => ⟨S1x2, .f32⟩
  | .hbm, ⟨1, _⟩ => ⟨S4194304, .f32⟩
  | .hbm, ⟨2, _⟩ => ⟨S4194304x2, .f32⟩
  | .hbm, ⟨3, _⟩ => ⟨S4194304x2, .f32⟩
  | .hbm, ⟨4, _⟩ => ⟨S32768x128, .f32⟩
  | .hbm, ⟨5, _⟩ => ⟨S32768x128x2, .f32⟩
  | .hbm, ⟨6, _⟩ => ⟨S32768x2x128, .f32⟩
  | .hbm, ⟨7, _⟩ => ⟨S65536x128, .f32⟩
  | .hbm, ⟨8, _⟩ => ⟨S32768x128x2, .f32⟩
  | .hbm, ⟨9, _⟩ => ⟨S32768x2x128, .f32⟩
  | .hbm, ⟨10, _⟩ => ⟨S65536x128, .f32⟩
  | .hbm, ⟨11, _⟩ => ⟨S65536x128, .f32⟩
  | .hbm, ⟨12, _⟩ => ⟨S32768x2x128, .f32⟩
  | .hbm, ⟨13, _⟩ => ⟨S32768x128x2, .f32⟩
  | .hbm, ⟨14, _⟩ => ⟨S4194304x2, .f32⟩
  | .local _ .vmem, ⟨0, _⟩ => ⟨S8x512x128, .f32⟩
  | .local _ .vmem, ⟨1, _⟩ => ⟨S8x1024x128, .f32⟩
  | .local _ .vmem, ⟨2, _⟩ => ⟨S8x1024x128, .f32⟩
  | .local _ .vmem, ⟨3, _⟩ => ⟨S8x1024x128, .f32⟩
  | .local _ .smem, ⟨0, _⟩ => ⟨S1x2, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_127 : BitVec 32 := 0#32
  let c8_i32 : BitVec 32 := 8#32
  let v132 : BitVec 32 := Scalar.addi c0_i32_127 c8_i32
  let c1_i32_128 : BitVec 32 := 1#32
  ⟨c0_i32_127, v132, c1_i32_128⟩
def k0_off1 (k0_t1 : Fin k0_t1_loop.trips) (c0_i32_171 : BitVec 32) : Fin 2 → Nat :=
  let c0_i32_127 : BitVec 32 := 0#32
  let c1_i32_128 : BitVec 32 := 1#32
  let arg13 : BitVec 32 := Scf.iv c0_i32_127 c1_i32_128 k0_t1
  let c8_i32_170 : BitVec 32 := 8#32
  let v173 : BitVec 32 := Scalar.muli arg13 c8_i32_170
  let v174 : BitVec 32 := Scalar.addi v173 c0_i32_171
  let c512_i32_172 : BitVec 32 := 512#32
  let v175 : BitVec 32 := Scalar.muli v174 c512_i32_172
  let c0_i32_181 : BitVec 32 := 0#32
  ![v175.toNat, 0]
def k0_off2 (k0_t1 : Fin k0_t1_loop.trips) (c0_i32_171 : BitVec 32) : Fin 2 → Nat :=
  let c0_i32_127 : BitVec 32 := 0#32
  let c1_i32_128 : BitVec 32 := 1#32
  let arg13 : BitVec 32 := Scf.iv c0_i32_127 c1_i32_128 k0_t1
  let c8_i32_170 : BitVec 32 := 8#32
  let v173 : BitVec 32 := Scalar.muli arg13 c8_i32_170
  let v174 : BitVec 32 := Scalar.addi v173 c0_i32_171
  let c2_i32_173 : BitVec 32 := 2#32
  let v176 : BitVec 32 := Scalar.muli v174 c2_i32_173
  let c512_i32_174 : BitVec 32 := 512#32
  let v177 : BitVec 32 := Scalar.muli v176 c512_i32_174
  let c0_i32_186 : BitVec 32 := 0#32
  ![v177.toNat, 0]
def k0_cond1 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_192 : BitVec 32 := 0#32
  let v195 : BitVec 1 := Scalar.cmpi .sgt arg13 c0_i32_192
  let v196 : BitVec 32 := Scalar.extui v195
  let c0_i32_193 : BitVec 32 := 0#32
  let v197 : BitVec 1 := Scalar.cmpi .ne v196 c0_i32_193
  v197

def k0_off3 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_170 : BitVec 32 := 8#32
  let v173 : BitVec 32 := Scalar.muli arg13 c8_i32_170
  let c0_i32_171 : BitVec 32 := 0#32
  let v174 : BitVec 32 := Scalar.addi v173 c0_i32_171
  let c8_i32_852 : BitVec 32 := 8#32
  let v1213 : BitVec 32 := Scalar.subi v174 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond2 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_254 : BitVec 32 := 7#32
  let v300 : BitVec 1 := Scalar.cmpi .slt arg13 c7_i32_254
  let v301 : BitVec 32 := Scalar.extui v300
  let c0_i32_255 : BitVec 32 := 0#32
  let v302 : BitVec 1 := Scalar.cmpi .ne v301 c0_i32_255
  v302

def k0_off4 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_170 : BitVec 32 := 8#32
  let v173 : BitVec 32 := Scalar.muli arg13 c8_i32_170
  let c0_i32_171 : BitVec 32 := 0#32
  let v174 : BitVec 32 := Scalar.addi v173 c0_i32_171
  let c8_i32_852 : BitVec 32 := 8#32
  let v1213 : BitVec 32 := Scalar.addi v174 c8_i32_852
  let c512_i32_853 : BitVec 32 := 512#32
  let v1214 : BitVec 32 := Scalar.muli v1213 c512_i32_853
  let c0_i32_862 : BitVec 32 := 0#32
  ![v1214.toNat, 0]
def k0_off5 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_170 : BitVec 32 := 8#32
  let v173 : BitVec 32 := Scalar.muli arg13 c8_i32_170
  let c0_i32_171 : BitVec 32 := 0#32
  let v174 : BitVec 32 := Scalar.addi v173 c0_i32_171
  let c8_i32_852 : BitVec 32 := 8#32
  let v1213 : BitVec 32 := Scalar.addi v174 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
def k0_cond3 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_278 : BitVec 32 := 0#32
  let v325 : BitVec 1 := Scalar.cmpi .sgt arg13 c0_i32_278
  let v326 : BitVec 32 := Scalar.extui v325
  let c0_i32_279 : BitVec 32 := 0#32
  let v327 : BitVec 1 := Scalar.cmpi .ne v326 c0_i32_279
  v327

def k0_off6 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_256 : BitVec 32 := 8#32
  let v303 : BitVec 32 := Scalar.muli arg13 c8_i32_256
  let c1_i32_257 : BitVec 32 := 1#32
  let v304 : BitVec 32 := Scalar.addi v303 c1_i32_257
  let c8_i32_852 : BitVec 32 := 8#32
  let v1213 : BitVec 32 := Scalar.subi v304 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond4 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_340 : BitVec 32 := 7#32
  let v430 : BitVec 1 := Scalar.cmpi .slt arg13 c7_i32_340
  let v431 : BitVec 32 := Scalar.extui v430
  let c0_i32_341 : BitVec 32 := 0#32
  let v432 : BitVec 1 := Scalar.cmpi .ne v431 c0_i32_341
  v432

def k0_off7 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_256 : BitVec 32 := 8#32
  let v303 : BitVec 32 := Scalar.muli arg13 c8_i32_256
  let c1_i32_257 : BitVec 32 := 1#32
  let v304 : BitVec 32 := Scalar.addi v303 c1_i32_257
  let c8_i32_852 : BitVec 32 := 8#32
  let v1213 : BitVec 32 := Scalar.addi v304 c8_i32_852
  let c512_i32_853 : BitVec 32 := 512#32
  let v1214 : BitVec 32 := Scalar.muli v1213 c512_i32_853
  let c0_i32_862 : BitVec 32 := 0#32
  ![v1214.toNat, 0]
def k0_off8 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_256 : BitVec 32 := 8#32
  let v303 : BitVec 32 := Scalar.muli arg13 c8_i32_256
  let c1_i32_257 : BitVec 32 := 1#32
  let v304 : BitVec 32 := Scalar.addi v303 c1_i32_257
  let c8_i32_852 : BitVec 32 := 8#32
  let v1213 : BitVec 32 := Scalar.addi v304 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
def k0_cond5 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_364 : BitVec 32 := 0#32
  let v455 : BitVec 1 := Scalar.cmpi .sgt arg13 c0_i32_364
  let v456 : BitVec 32 := Scalar.extui v455
  let c0_i32_365 : BitVec 32 := 0#32
  let v457 : BitVec 1 := Scalar.cmpi .ne v456 c0_i32_365
  v457

def k0_off9 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_342 : BitVec 32 := 8#32
  let v433 : BitVec 32 := Scalar.muli arg13 c8_i32_342
  let c2_i32_343 : BitVec 32 := 2#32
  let v434 : BitVec 32 := Scalar.addi v433 c2_i32_343
  let c8_i32_852 : BitVec 32 := 8#32
  let v1213 : BitVec 32 := Scalar.subi v434 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond6 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_425 : BitVec 32 := 7#32
  let v560 : BitVec 1 := Scalar.cmpi .slt arg13 c7_i32_425
  let v561 : BitVec 32 := Scalar.extui v560
  let c0_i32_426 : BitVec 32 := 0#32
  let v562 : BitVec 1 := Scalar.cmpi .ne v561 c0_i32_426
  v562

def k0_off10 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_342 : BitVec 32 := 8#32
  let v433 : BitVec 32 := Scalar.muli arg13 c8_i32_342
  let c2_i32_343 : BitVec 32 := 2#32
  let v434 : BitVec 32 := Scalar.addi v433 c2_i32_343
  let c8_i32_852 : BitVec 32 := 8#32
  let v1213 : BitVec 32 := Scalar.addi v434 c8_i32_852
  let c512_i32_853 : BitVec 32 := 512#32
  let v1214 : BitVec 32 := Scalar.muli v1213 c512_i32_853
  let c0_i32_862 : BitVec 32 := 0#32
  ![v1214.toNat, 0]
def k0_off11 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_342 : BitVec 32 := 8#32
  let v433 : BitVec 32 := Scalar.muli arg13 c8_i32_342
  let c2_i32_343 : BitVec 32 := 2#32
  let v434 : BitVec 32 := Scalar.addi v433 c2_i32_343
  let c8_i32_852 : BitVec 32 := 8#32
  let v1213 : BitVec 32 := Scalar.addi v434 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
def k0_cond7 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_449 : BitVec 32 := 0#32
  let v585 : BitVec 1 := Scalar.cmpi .sgt arg13 c0_i32_449
  let v586 : BitVec 32 := Scalar.extui v585
  let c0_i32_450 : BitVec 32 := 0#32
  let v587 : BitVec 1 := Scalar.cmpi .ne v586 c0_i32_450
  v587

def k0_off12 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_427 : BitVec 32 := 8#32
  let v563 : BitVec 32 := Scalar.muli arg13 c8_i32_427
  let c3_i32_428 : BitVec 32 := 3#32
  let v564 : BitVec 32 := Scalar.addi v563 c3_i32_428
  let c8_i32_852 : BitVec 32 := 8#32
  let v1213 : BitVec 32 := Scalar.subi v564 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond8 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_510 : BitVec 32 := 7#32
  let v690 : BitVec 1 := Scalar.cmpi .slt arg13 c7_i32_510
  let v691 : BitVec 32 := Scalar.extui v690
  let c0_i32_511 : BitVec 32 := 0#32
  let v692 : BitVec 1 := Scalar.cmpi .ne v691 c0_i32_511
  v692

def k0_off13 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_427 : BitVec 32 := 8#32
  let v563 : BitVec 32 := Scalar.muli arg13 c8_i32_427
  let c3_i32_428 : BitVec 32 := 3#32
  let v564 : BitVec 32 := Scalar.addi v563 c3_i32_428
  let c8_i32_852 : BitVec 32 := 8#32
  let v1213 : BitVec 32 := Scalar.addi v564 c8_i32_852
  let c512_i32_853 : BitVec 32 := 512#32
  let v1214 : BitVec 32 := Scalar.muli v1213 c512_i32_853
  let c0_i32_862 : BitVec 32 := 0#32
  ![v1214.toNat, 0]
def k0_off14 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_427 : BitVec 32 := 8#32
  let v563 : BitVec 32 := Scalar.muli arg13 c8_i32_427
  let c3_i32_428 : BitVec 32 := 3#32
  let v564 : BitVec 32 := Scalar.addi v563 c3_i32_428
  let c8_i32_852 : BitVec 32 := 8#32
  let v1213 : BitVec 32 := Scalar.addi v564 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
def k0_cond9 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_534 : BitVec 32 := 0#32
  let v715 : BitVec 1 := Scalar.cmpi .sgt arg13 c0_i32_534
  let v716 : BitVec 32 := Scalar.extui v715
  let c0_i32_535 : BitVec 32 := 0#32
  let v717 : BitVec 1 := Scalar.cmpi .ne v716 c0_i32_535
  v717

def k0_off15 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_512 : BitVec 32 := 8#32
  let v693 : BitVec 32 := Scalar.muli arg13 c8_i32_512
  let c4_i32_513 : BitVec 32 := 4#32
  let v694 : BitVec 32 := Scalar.addi v693 c4_i32_513
  let c8_i32_852 : BitVec 32 := 8#32
  let v1213 : BitVec 32 := Scalar.subi v694 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond10 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_595 : BitVec 32 := 7#32
  let v820 : BitVec 1 := Scalar.cmpi .slt arg13 c7_i32_595
  let v821 : BitVec 32 := Scalar.extui v820
  let c0_i32_596 : BitVec 32 := 0#32
  let v822 : BitVec 1 := Scalar.cmpi .ne v821 c0_i32_596
  v822

def k0_off16 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_512 : BitVec 32 := 8#32
  let v693 : BitVec 32 := Scalar.muli arg13 c8_i32_512
  let c4_i32_513 : BitVec 32 := 4#32
  let v694 : BitVec 32 := Scalar.addi v693 c4_i32_513
  let c8_i32_852 : BitVec 32 := 8#32
  let v1213 : BitVec 32 := Scalar.addi v694 c8_i32_852
  let c512_i32_853 : BitVec 32 := 512#32
  let v1214 : BitVec 32 := Scalar.muli v1213 c512_i32_853
  let c0_i32_862 : BitVec 32 := 0#32
  ![v1214.toNat, 0]
def k0_off17 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_512 : BitVec 32 := 8#32
  let v693 : BitVec 32 := Scalar.muli arg13 c8_i32_512
  let c4_i32_513 : BitVec 32 := 4#32
  let v694 : BitVec 32 := Scalar.addi v693 c4_i32_513
  let c8_i32_852 : BitVec 32 := 8#32
  let v1213 : BitVec 32 := Scalar.addi v694 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
def k0_cond11 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_619 : BitVec 32 := 0#32
  let v845 : BitVec 1 := Scalar.cmpi .sgt arg13 c0_i32_619
  let v846 : BitVec 32 := Scalar.extui v845
  let c0_i32_620 : BitVec 32 := 0#32
  let v847 : BitVec 1 := Scalar.cmpi .ne v846 c0_i32_620
  v847

def k0_off18 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_597 : BitVec 32 := 8#32
  let v823 : BitVec 32 := Scalar.muli arg13 c8_i32_597
  let c5_i32_598 : BitVec 32 := 5#32
  let v824 : BitVec 32 := Scalar.addi v823 c5_i32_598
  let c8_i32_852 : BitVec 32 := 8#32
  let v1213 : BitVec 32 := Scalar.subi v824 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond12 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_680 : BitVec 32 := 7#32
  let v950 : BitVec 1 := Scalar.cmpi .slt arg13 c7_i32_680
  let v951 : BitVec 32 := Scalar.extui v950
  let c0_i32_681 : BitVec 32 := 0#32
  let v952 : BitVec 1 := Scalar.cmpi .ne v951 c0_i32_681
  v952

def k0_off19 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_597 : BitVec 32 := 8#32
  let v823 : BitVec 32 := Scalar.muli arg13 c8_i32_597
  let c5_i32_598 : BitVec 32 := 5#32
  let v824 : BitVec 32 := Scalar.addi v823 c5_i32_598
  let c8_i32_852 : BitVec 32 := 8#32
  let v1213 : BitVec 32 := Scalar.addi v824 c8_i32_852
  let c512_i32_853 : BitVec 32 := 512#32
  let v1214 : BitVec 32 := Scalar.muli v1213 c512_i32_853
  let c0_i32_862 : BitVec 32 := 0#32
  ![v1214.toNat, 0]
def k0_off20 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_597 : BitVec 32 := 8#32
  let v823 : BitVec 32 := Scalar.muli arg13 c8_i32_597
  let c5_i32_598 : BitVec 32 := 5#32
  let v824 : BitVec 32 := Scalar.addi v823 c5_i32_598
  let c8_i32_852 : BitVec 32 := 8#32
  let v1213 : BitVec 32 := Scalar.addi v824 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
def k0_cond13 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_704 : BitVec 32 := 0#32
  let v975 : BitVec 1 := Scalar.cmpi .sgt arg13 c0_i32_704
  let v976 : BitVec 32 := Scalar.extui v975
  let c0_i32_705 : BitVec 32 := 0#32
  let v977 : BitVec 1 := Scalar.cmpi .ne v976 c0_i32_705
  v977

def k0_off21 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_682 : BitVec 32 := 8#32
  let v953 : BitVec 32 := Scalar.muli arg13 c8_i32_682
  let c6_i32_683 : BitVec 32 := 6#32
  let v954 : BitVec 32 := Scalar.addi v953 c6_i32_683
  let c8_i32_852 : BitVec 32 := 8#32
  let v1213 : BitVec 32 := Scalar.subi v954 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond14 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_765 : BitVec 32 := 7#32
  let v1080 : BitVec 1 := Scalar.cmpi .slt arg13 c7_i32_765
  let v1081 : BitVec 32 := Scalar.extui v1080
  let c0_i32_766 : BitVec 32 := 0#32
  let v1082 : BitVec 1 := Scalar.cmpi .ne v1081 c0_i32_766
  v1082

def k0_off22 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_682 : BitVec 32 := 8#32
  let v953 : BitVec 32 := Scalar.muli arg13 c8_i32_682
  let c6_i32_683 : BitVec 32 := 6#32
  let v954 : BitVec 32 := Scalar.addi v953 c6_i32_683
  let c8_i32_852 : BitVec 32 := 8#32
  let v1213 : BitVec 32 := Scalar.addi v954 c8_i32_852
  let c512_i32_853 : BitVec 32 := 512#32
  let v1214 : BitVec 32 := Scalar.muli v1213 c512_i32_853
  let c0_i32_862 : BitVec 32 := 0#32
  ![v1214.toNat, 0]
def k0_off23 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_682 : BitVec 32 := 8#32
  let v953 : BitVec 32 := Scalar.muli arg13 c8_i32_682
  let c6_i32_683 : BitVec 32 := 6#32
  let v954 : BitVec 32 := Scalar.addi v953 c6_i32_683
  let c8_i32_852 : BitVec 32 := 8#32
  let v1213 : BitVec 32 := Scalar.addi v954 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
def k0_cond15 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c0_i32_789 : BitVec 32 := 0#32
  let v1105 : BitVec 1 := Scalar.cmpi .sgt arg13 c0_i32_789
  let v1106 : BitVec 32 := Scalar.extui v1105
  let c0_i32_790 : BitVec 32 := 0#32
  let v1107 : BitVec 1 := Scalar.cmpi .ne v1106 c0_i32_790
  v1107

def k0_off24 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_767 : BitVec 32 := 8#32
  let v1083 : BitVec 32 := Scalar.muli arg13 c8_i32_767
  let c7_i32_768 : BitVec 32 := 7#32
  let v1084 : BitVec 32 := Scalar.addi v1083 c7_i32_768
  let c8_i32_852 : BitVec 32 := 8#32
  let v1213 : BitVec 32 := Scalar.subi v1084 c8_i32_852
  let c2_i32_853 : BitVec 32 := 2#32
  let v1214 : BitVec 32 := Scalar.muli v1213 c2_i32_853
  let c512_i32_854 : BitVec 32 := 512#32
  let v1215 : BitVec 32 := Scalar.muli v1214 c512_i32_854
  let c0_i32_857 : BitVec 32 := 0#32
  ![v1215.toNat, 0]
def k0_cond16 (k0_t1 : Fin k0_t1_loop.trips) : BitVec 1 :=
  let c0_i32_127 : BitVec 32 := 0#32
  let c1_i32_128 : BitVec 32 := 1#32
  let arg13 : BitVec 32 := Scf.iv c0_i32_127 c1_i32_128 k0_t1
  let c7_i32_850 : BitVec 32 := 7#32
  let v1210 : BitVec 1 := Scalar.cmpi .slt arg13 c7_i32_850
  let v1211 : BitVec 32 := Scalar.extui v1210
  let c0_i32_851 : BitVec 32 := 0#32
  let v1212 : BitVec 1 := Scalar.cmpi .ne v1211 c0_i32_851
  v1212

def k0_off25 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_767 : BitVec 32 := 8#32
  let v1083 : BitVec 32 := Scalar.muli arg13 c8_i32_767
  let c7_i32_768 : BitVec 32 := 7#32
  let v1084 : BitVec 32 := Scalar.addi v1083 c7_i32_768
  let c8_i32_852 : BitVec 32 := 8#32
  let v1213 : BitVec 32 := Scalar.addi v1084 c8_i32_852
  let c512_i32_853 : BitVec 32 := 512#32
  let v1214 : BitVec 32 := Scalar.muli v1213 c512_i32_853
  let c0_i32_862 : BitVec 32 := 0#32
  ![v1214.toNat, 0]
def k0_off26 (k0_t1 : Fin k0_t1_loop.trips) : Fin 2 → Nat :=
  let c0_i32_127 : BitVec 32 := 0#32
  let c1_i32_128 : BitVec 32 := 1#32
  let arg13 : BitVec 32 := Scf.iv c0_i32_127 c1_i32_128 k0_t1
  let c8_i32_767 : BitVec 32 := 8#32
  let v1083 : BitVec 32 := Scalar.muli arg13 c8_i32_767
  let c7_i32_768 : BitVec 32 := 7#32
  let v1084 : BitVec 32 := Scalar.addi v1083 c7_i32_768
  let c8_i32_852 : BitVec 32 := 8#32
  let v1213 : BitVec 32 := Scalar.addi v1084 c8_i32_852
  let c2_i32_854 : BitVec 32 := 2#32
  let v1215 : BitVec 32 := Scalar.muli v1213 c2_i32_854
  let c512_i32_855 : BitVec 32 := 512#32
  let v1216 : BitVec 32 := Scalar.muli v1215 c512_i32_855
  let c0_i32_867 : BitVec 32 := 0#32
  ![v1216.toNat, 0]
abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x2 : Shape := ⟨2, ![1, 2]⟩
abbrev S4194304 : Shape := ⟨1, ![4194304]⟩
abbrev S4194304x2 : Shape := ⟨2, ![4194304, 2]⟩
abbrev S_ : Shape := ⟨0, ![]⟩
abbrev S1 : Shape := ⟨1, ![1]⟩
abbrev S1x1 : Shape := ⟨2, ![1, 1]⟩
abbrev S4194304x1 : Shape := ⟨2, ![4194304, 1]⟩

abbrev nBuf : Space → Nat
  | .hbm => 229
  | .vmem => 0
  | .smem => 0
  | _ => 0

abbrev hbmTy0_0 (i : Nat) : BufTy := match i % 128 with
  | 0 => ⟨S1x2, .f32⟩
  | 1 => ⟨S4194304, .f32⟩
  | 2 => ⟨S4194304x2, .f32⟩
  | 3 => ⟨S4194304x2, .f32⟩
  | 4 => ⟨S_, .f32⟩
  | 5 => ⟨S1, .f32⟩
  | 6 => ⟨S_, .f32⟩
  | 7 => ⟨S1, .f32⟩
  | 8 => ⟨S1, .f32⟩
  | 9 => ⟨S1x1, .f32⟩
  | 10 => ⟨S1x2, .f32⟩
  | 11 => ⟨S1x2, .f32⟩
  | 12 => ⟨S1x2, .f32⟩
  | 13 => ⟨S_, .f32⟩
  | 14 => ⟨S1, .f32⟩
  | 15 => ⟨S1x1, .f32⟩
  | 16 => ⟨S1x2, .f32⟩
  | 17 => ⟨S1x2, .f32⟩
  | 18 => ⟨S1x1, .f32⟩
  | 19 => ⟨S_, .f32⟩
  | 20 => ⟨S4194304, .f32⟩
  | 21 => ⟨S4194304, .i1⟩
  | 22 => ⟨S_, .f32⟩
  | 23 => ⟨S4194304x2, .f32⟩
  | 24 => ⟨S4194304x2, .f32⟩
  | 25 => ⟨S_, .f32⟩
  | 26 => ⟨S4194304x2, .f32⟩
  | 27 => ⟨S4194304x2, .f32⟩
  | 28 => ⟨S4194304x1, .f32⟩
  | 29 => ⟨S4194304, .f32⟩
  | 30 => ⟨S4194304x1, .f32⟩
  | 31 => ⟨S4194304, .f32⟩
  | 32 => ⟨S_, .f32⟩
  | 33 => ⟨S4194304, .f32⟩
  | 34 => ⟨S4194304, .i1⟩
  | 35 => ⟨S_, .f32⟩
  | 36 => ⟨S4194304, .f32⟩
  | 37 => ⟨S4194304, .i1⟩
  | 38 => ⟨S4194304, .i1⟩
  | 39 => ⟨S4194304, .i1⟩
  | 40 => ⟨S4194304, .f32⟩
  | 41 => ⟨S4194304, .f32⟩
  | 42 => ⟨S4194304, .i1⟩
  | 43 => ⟨S4194304, .i1⟩
  | 44 => ⟨S4194304, .i1⟩
  | 45 => ⟨S4194304, .i1⟩
  | 46 => ⟨S_, .f32⟩
  | 47 => ⟨S_, .f32⟩
  | 48 => ⟨S4194304, .f32⟩
  | 49 => ⟨S4194304, .f32⟩
  | 50 => ⟨S_, .f32⟩
  | 51 => ⟨S_, .f32⟩
  | 52 => ⟨S4194304, .f32⟩
  | 53 => ⟨S4194304, .f32⟩
  | 54 => ⟨S4194304, .f32⟩
  | 55 => ⟨S_, .f32⟩
  | 56 => ⟨S4194304, .f32⟩
  | 57 => ⟨S4194304, .f32⟩
  | 58 => ⟨S4194304, .f32⟩
  | 59 => ⟨S4194304, .f32⟩
  | 60 => ⟨S4194304, .f32⟩
  | 61 => ⟨S_, .f32⟩
  | 62 => ⟨S4194304, .f32⟩
  | 63 => ⟨S4194304, .f32⟩
  | 64 => ⟨S_, .f32⟩
  | 65 => ⟨S4194304, .f32⟩
  | 66 => ⟨S4194304, .f32⟩
  | 67 => ⟨S4194304, .f32⟩
  | 68 => ⟨S_, .f32⟩
  | 69 => ⟨S4194304, .f32⟩
  | 70 => ⟨S4194304, .f32⟩
  | 71 => ⟨S4194304, .f32⟩
  | 72 => ⟨S4194304, .f32⟩
  | 73 => ⟨S4194304, .f32⟩
  | 74 => ⟨S_, .f32⟩
  | 75 => ⟨S4194304, .f32⟩
  | 76 => ⟨S4194304, .f32⟩
  | 77 => ⟨S4194304, .f32⟩
  | 78 => ⟨S4194304, .f32⟩
  | 79 => ⟨S4194304, .f32⟩
  | 80 => ⟨S_, .f32⟩
  | 81 => ⟨S4194304, .f32⟩
  | 82 => ⟨S4194304, .f32⟩
  | 83 => ⟨S4194304, .f32⟩
  | 84 => ⟨S4194304, .f32⟩
  | 85 => ⟨S4194304, .f32⟩
  | 86 => ⟨S4194304, .f32⟩
  | 87 => ⟨S_, .f32⟩
  | 88 => ⟨S4194304, .f32⟩
  | 89 => ⟨S4194304, .f32⟩
  | 90 => ⟨S4194304, .f32⟩
  | 91 => ⟨S4194304, .f32⟩
  | 92 => ⟨S4194304, .f32⟩
  | 93 => ⟨S_, .f32⟩
  | 94 => ⟨S4194304, .f32⟩
  | 95 => ⟨S4194304, .f32⟩
  | 96 => ⟨S4194304, .f32⟩
  | 97 => ⟨S4194304, .f32⟩
  | 98 => ⟨S4194304, .f32⟩
  | 99 => ⟨S_, .f32⟩
  | 100 => ⟨S4194304, .f32⟩
  | 101 => ⟨S4194304, .f32⟩
  | 102 => ⟨S_, .f32⟩
  | 103 => ⟨S4194304, .f32⟩
  | 104 => ⟨S4194304, .f32⟩
  | 105 => ⟨S4194304, .f32⟩
  | 106 => ⟨S_, .f32⟩
  | 107 => ⟨S4194304, .f32⟩
  | 108 => ⟨S4194304, .f32⟩
  | 109 => ⟨S4194304, .f32⟩
  | 110 => ⟨S4194304, .f32⟩
  | 111 => ⟨S4194304, .f32⟩
  | 112 => ⟨S_, .f32⟩
  | 113 => ⟨S4194304, .f32⟩
  | 114 => ⟨S4194304, .f32⟩
  | 115 => ⟨S4194304, .f32⟩
  | 116 => ⟨S4194304, .f32⟩
  | 117 => ⟨S4194304, .f32⟩
  | 118 => ⟨S_, .f32⟩
  | 119 => ⟨S4194304, .f32⟩
  | 120 => ⟨S4194304, .f32⟩
  | 121 => ⟨S4194304, .f32⟩
  | 122 => ⟨S4194304, .f32⟩
  | 123 => ⟨S4194304, .f32⟩
  | 124 => ⟨S4194304, .f32⟩
  | 125 => ⟨S_, .f32⟩
  | 126 => ⟨S4194304, .f32⟩
  | 127 => ⟨S4194304, .f32⟩
  | _ => ⟨S1x2, .f32⟩

abbrev hbmTy0_1 (i : Nat) : BufTy := match i % 128 with
  | 0 => ⟨S4194304, .f32⟩
  | 1 => ⟨S4194304, .f32⟩
  | 2 => ⟨S4194304, .f32⟩
  | 3 => ⟨S4194304, .f32⟩
  | 4 => ⟨S_, .f32⟩
  | 5 => ⟨S4194304, .f32⟩
  | 6 => ⟨S4194304, .f32⟩
  | 7 => ⟨S4194304, .f32⟩
  | 8 => ⟨S4194304, .f32⟩
  | 9 => ⟨S4194304, .f32⟩
  | 10 => ⟨S_, .f32⟩
  | 11 => ⟨S4194304, .f32⟩
  | 12 => ⟨S4194304, .f32⟩
  | 13 => ⟨S_, .f32⟩
  | 14 => ⟨S4194304, .f32⟩
  | 15 => ⟨S4194304, .f32⟩
  | 16 => ⟨S4194304, .f32⟩
  | 17 => ⟨S_, .f32⟩
  | 18 => ⟨S4194304, .f32⟩
  | 19 => ⟨S4194304, .f32⟩
  | 20 => ⟨S4194304, .f32⟩
  | 21 => ⟨S4194304, .f32⟩
  | 22 => ⟨S4194304, .f32⟩
  | 23 => ⟨S_, .f32⟩
  | 24 => ⟨S4194304, .f32⟩
  | 25 => ⟨S4194304, .f32⟩
  | 26 => ⟨S4194304, .f32⟩
  | 27 => ⟨S4194304, .f32⟩
  | 28 => ⟨S4194304, .f32⟩
  | 29 => ⟨S_, .f32⟩
  | 30 => ⟨S4194304, .f32⟩
  | 31 => ⟨S4194304, .f32⟩
  | 32 => ⟨S4194304, .f32⟩
  | 33 => ⟨S4194304, .f32⟩
  | 34 => ⟨S4194304, .f32⟩
  | 35 => ⟨S4194304, .f32⟩
  | 36 => ⟨S_, .f32⟩
  | 37 => ⟨S4194304, .f32⟩
  | 38 => ⟨S4194304, .f32⟩
  | 39 => ⟨S4194304, .f32⟩
  | 40 => ⟨S4194304, .f32⟩
  | 41 => ⟨S4194304, .f32⟩
  | 42 => ⟨S_, .f32⟩
  | 43 => ⟨S4194304, .f32⟩
  | 44 => ⟨S4194304, .f32⟩
  | 45 => ⟨S4194304, .f32⟩
  | 46 => ⟨S4194304, .f32⟩
  | 47 => ⟨S4194304, .f32⟩
  | 48 => ⟨S_, .f32⟩
  | 49 => ⟨S4194304, .f32⟩
  | 50 => ⟨S4194304, .f32⟩
  | 51 => ⟨S_, .f32⟩
  | 52 => ⟨S4194304, .f32⟩
  | 53 => ⟨S4194304, .f32⟩
  | 54 => ⟨S4194304, .f32⟩
  | 55 => ⟨S_, .f32⟩
  | 56 => ⟨S4194304, .f32⟩
  | 57 => ⟨S4194304, .f32⟩
  | 58 => ⟨S4194304, .f32⟩
  | 59 => ⟨S4194304, .f32⟩
  | 60 => ⟨S4194304, .f32⟩
  | 61 => ⟨S_, .f32⟩
  | 62 => ⟨S4194304, .f32⟩
  | 63 => ⟨S4194304, .f32⟩
  | 64 => ⟨S4194304, .f32⟩
  | 65 => ⟨S4194304, .f32⟩
  | 66 => ⟨S4194304, .f32⟩
  | 67 => ⟨S_, .f32⟩
  | 68 => ⟨S4194304, .f32⟩
  | 69 => ⟨S4194304, .f32⟩
  | 70 => ⟨S4194304, .f32⟩
  | 71 => ⟨S4194304, .f32⟩
  | 72 => ⟨S4194304, .f32⟩
  | 73 => ⟨S4194304, .f32⟩
  | 74 => ⟨S_, .f32⟩
  | 75 => ⟨S4194304, .f32⟩
  | 76 => ⟨S4194304, .f32⟩
  | 77 => ⟨S4194304, .f32⟩
  | 78 => ⟨S4194304, .f32⟩
  | 79 => ⟨S4194304, .f32⟩
  | 80 => ⟨S4194304, .f32⟩
  | 81 => ⟨S_, .f32⟩
  | 82 => ⟨S_, .f32⟩
  | 83 => ⟨S4194304, .f32⟩
  | 84 => ⟨S4194304, .f32⟩
  | 85 => ⟨S4194304, .f32⟩
  | 86 => ⟨S_, .f32⟩
  | 87 => ⟨S_, .f32⟩
  | 88 => ⟨S4194304, .f32⟩
  | 89 => ⟨S4194304, .f32⟩
  | 90 => ⟨S4194304, .f32⟩
  | 91 => ⟨S4194304x1, .f32⟩
  | 92 => ⟨S4194304x1, .f32⟩
  | 93 => ⟨S4194304x2, .f32⟩
  | 94 => ⟨S_, .f32⟩
  | 95 => ⟨S_, .f32⟩
  | 96 => ⟨S4194304x2, .f32⟩
  | 97 => ⟨S4194304x2, .f32⟩
  | 98 => ⟨S4194304x1, .i1⟩
  | 99 => ⟨S4194304x2, .i1⟩
  | 100 => ⟨S4194304x2, .f32⟩
  | _ => ⟨S1x2, .f32⟩

abbrev hbmTy (i : Nat) : BufTy := match i / 128 with
  | 0 => hbmTy0_0 i
  | 1 => hbmTy0_1 i
  | _ => ⟨S1x2, .f32⟩

abbrev bufTy : (tb : Table) → Fin (tcTables nBuf tb) → BufTy
  | .hbm, ⟨i, _⟩ => hbmTy i
  | _, _ => ⟨S1x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v35 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_21 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_22 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_23 : Ref sig .tc := ⟨.hbm, 138, rfl⟩
abbrev main_v106 : Ref sig .tc := ⟨.hbm, 139, rfl⟩
abbrev main_v107 : Ref sig .tc := ⟨.hbm, 140, rfl⟩
abbrev main_cst_24 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_25 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_26 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_27 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_28 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_29 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_30 : Ref sig .tc := ⟨.hbm, 176, rfl⟩
abbrev main_v137 : Ref sig .tc := ⟨.hbm, 177, rfl⟩
abbrev main_v138 : Ref sig .tc := ⟨.hbm, 178, rfl⟩
abbrev main_cst_31 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_32 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_33 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_34 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_35 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_36 : Ref sig .tc := ⟨.hbm, 209, rfl⟩
abbrev main_call6_v0 : Ref sig .tc := ⟨.hbm, 210, rfl⟩
abbrev main_call6_v1 : Ref sig .tc := ⟨.hbm, 211, rfl⟩
abbrev main_v164 : Ref sig .tc := ⟨.hbm, 212, rfl⟩
abbrev main_v165 : Ref sig .tc := ⟨.hbm, 213, rfl⟩
abbrev main_cst_37 : Ref sig .tc := ⟨.hbm, 214, rfl⟩
abbrev main_call8_v0 : Ref sig .tc := ⟨.hbm, 215, rfl⟩
abbrev main_call8_v1 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_38 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_call10_v0 : Ref sig .tc := ⟨.hbm, 227, rfl⟩
abbrev main_v175 : Ref sig .tc := ⟨.hbm, 228, rfl⟩

abbrev nD : Nat := 1
abbrev τ : Topo := Topo.v7x

variable {F : FTy → Type} [FloatOps F]
-- ==== Proof.Slot.lean ====
/-
  One buffer slot of the ring, once for all eight: the names of its parts (the chunk of each array in HBM, the slot
  of each VMEM buffer, the slot's four DMA semaphores) and the programs the kernel runs on it (start the three input
  transfers, wait for them, compute the two interleaved row blocks, start and wait for the output transfer).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.ValueIdxCore
public import Idealize.ShloMosaic.Lib.Tactic

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's programs. -/
abbrev KProg (F : FTy → Type) [FloatOps F] (α : Type) : Type 1 := Prog (TpuEff nD τ sig (Elt F) Λ₀ .tc) α

/-! ## Names -/

abbrev xM : Memref sig .tc .hbm S32768x128 .f32 := Memref.whole main_v0
abbrev woM : Memref sig .tc .hbm S65536x128 .f32 := Memref.whole main_v3
abbrev gM : Memref sig .tc .hbm S65536x128 .f32 := Memref.whole main_v6
abbrev oM : Memref sig .tc .hbm S65536x128 .f32 := Memref.whole main_v7
abbrev xB : Memref sig .tc .vmem S8x512x128 .f32 := Memref.whole cc0_scratch0
abbrev woB : Memref sig .tc .vmem S8x1024x128 .f32 := Memref.whole cc0_scratch1
abbrev gB : Memref sig .tc .vmem S8x1024x128 .f32 := Memref.whole cc0_scratch2
abbrev oB : Memref sig .tc .vmem S8x1024x128 .f32 := Memref.whole cc0_scratch3

/-- Where chunk `i` starts: its 512 rows of the uniform draws, -/
abbrev xOff (i : Fin 64) : Fin 2 → Nat := ![512 * i.val, 0]
theorem xOff_inb (i : Fin 64) : ∀ a, xOff i a + S512x128.size a ≤ S32768x128.size a := by
  have := i.isLt; intro a; fin_cases a
  · show 512 * i.val + 512 ≤ 32768; omega
  · show 0 + 128 ≤ 128; omega
/-- its 1024 interleaved rows of each pair array. -/
abbrev pOff (i : Fin 64) : Fin 2 → Nat := ![1024 * i.val, 0]
theorem pOff_inb (i : Fin 64) : ∀ a, pOff i a + S1024x128.size a ≤ S65536x128.size a := by
  have := i.isLt; intro a; fin_cases a
  · show 1024 * i.val + 1024 ≤ 65536; omega
  · show 0 + 128 ≤ 128; omega
/-- Where slot `b` starts in a buffer, and its cell among the eight. -/
abbrev sOff (b : Fin 8) : Fin 3 → Nat := ![b.val, 0, 0]
theorem sOffX_inb (b : Fin 8) : ∀ a, sOff b a + S1x512x128.size a ≤ S8x512x128.size a := by
  have := b.isLt; intro a; fin_cases a
  · show b.val + 1 ≤ 8; omega
  · show 0 + 512 ≤ 512; omega
  · show 0 + 128 ≤ 128; omega
theorem sOffP_inb (b : Fin 8) : ∀ a, sOff b a + S1x1024x128.size a ≤ S8x1024x128.size a := by
  have := b.isLt; intro a; fin_cases a
  · show b.val + 1 ≤ 8; omega
  · show 0 + 1024 ≤ 1024; omega
  · show 0 + 128 ≤ 128; omega
abbrev cOff (b : Fin 8) : Fin 1 → Nat := ![b.val]
theorem cOff_inb (b : Fin 8) : ∀ a, cOff b a + S1.size a ≤ S8.size a := by
  have := b.isLt; intro a; fin_cases a; show b.val + 1 ≤ 8; omega

instance (b : Fin 8) : ClosedOff (sOff b) := ⟨sOff b, rfl⟩
instance (i : Fin 64) : ClosedOff (xOff i) := ⟨xOff i, rfl⟩
instance (i : Fin 64) : ClosedOff (pOff i) := ⟨pOff i, rfl⟩

/-- Chunk `i` of the uniform draws. -/
def xC (i : Fin 64) : Memref sig .tc .hbm S512x128 .f32 :=
  xM.slice (Rect.unit (s := S32768x128) (xOff i) S512x128.size (xOff_inb i)) (fun _ => rfl)
/-- Chunk `i` of a pair array. -/
def pC (M : Memref sig .tc .hbm S65536x128 .f32) (i : Fin 64) : Memref sig .tc .hbm S1024x128 .f32 :=
  M.slice (Rect.unit (s := S65536x128) (pOff i) S1024x128.size (pOff_inb i)) (fun _ => rfl)
/-- Slot `b` of the buffer of uniform draws. -/
def xS (b : Fin 8) : Memref sig .tc .vmem S512x128 .f32 :=
  (xB.slice (Rect.unit (s := S8x512x128) (sOff b) S1x512x128.size (sOffX_inb b)) (fun _ => rfl)).squeeze S512x128 squeezes_S1x512x128_S512x128
/-- Slot `b` of a buffer of pairs. -/
def pS (B : Memref sig .tc .vmem S8x1024x128 .f32) (b : Fin 8) : Memref sig .tc .vmem S1024x128 .f32 :=
  (B.slice (Rect.unit (s := S8x1024x128) (sOff b) S1x1024x128.size (sOffP_inb b)) (fun _ => rfl)).squeeze S1024x128 squeezes_S1x1024x128_S1024x128
/-- Slot `b`'s cell in an array of eight semaphores. -/
def cS (A : DmaSems sig S8) (b : Fin 8) : DmaSems sig S_ :=
  (A.slice (Rect.unit (s := S8) (cOff b) S1.size (cOff_inb b))).squeeze S_ squeezes_S1_S_

abbrev woC (i : Fin 64) := pC woM i
abbrev gC (i : Fin 64) := pC gM i
abbrev oC (i : Fin 64) := pC oM i
abbrev woS (b : Fin 8) := pS woB b
abbrev gS (b : Fin 8) := pS gB b
abbrev oS (b : Fin 8) := pS oB b
abbrev xCell (b : Fin 8) := cS cc0_scratch4 b
abbrev woCell (b : Fin 8) := cS cc0_scratch5 b
abbrev gCell (b : Fin 8) := cS cc0_scratch6 b
abbrev oCell (b : Fin 8) := cS cc0_scratch7 b

/-- Slot `b` read through its whole buffer. -/
abbrev xR (b : Fin 8) : Rect S8x512x128 := Rect.unit (s := S8x512x128) (sOff b) S1x512x128.size (sOffX_inb b)
/-- The even rows (first components) and the odd rows (second components) of a slot of pairs. -/
abbrev evenR : LoadRect S1024x128 := ⟨![0, 0], S512x128.size, ![2, 1], inb_S1024x128_S512x128_0_0_s_2_1⟩
abbrev oddR : LoadRect S1024x128 := ⟨![1, 0], S512x128.size, ![2, 1], inb_S1024x128_S512x128_1_0_s_2_1⟩

/-! ## The computation on a slot -/

/-- A float constant on every element of a block. -/
abbrev cst (b : BitVec 32) : FVec F S512x128 .f32 := broadcast S512x128 (Scalar.ofBits .f32 b)

/-- Where the draw is below the mixing probability. -/
def maskB (p : FVec F S8x128 .f32) (r : FVec F S512x128 .f32) : IVec S512x128 1 :=
  cmpf .olt r
    (broadcastTo S512x128 (extractStridedSlice S1x128 ![0, 0] p slices_S8x128_o0_0_S1x128) broadcasts_S1x128_S512x128)
/-- `2 a − 1`. -/
def signed (a : FVec F S512x128 .f32) : FVec F S512x128 .f32 := subf (mulf a (cst 0x40000000#32)) (cst 0x3F800000#32)
/-- Where the first coordinate dominates. -/
def dom (x y : FVec F S512x128 .f32) : IVec S512x128 1 := cmpf .ogt (absf x) (absf y)
/-- The dominating coordinate. -/
def radius (x y : FVec F S512x128 .f32) : FVec F S512x128 .f32 := select (dom x y) x y
/-- The fraction of a turn, less its nearest integer. -/
def turn (x y : FVec F S512x128 .f32) : FVec F S512x128 .f32 :=
  have u2 := mulf (divf (select (dom x y) y x) (select (cmpf .ogt (maximumf (absf x) (absf y)) (cst 0x00000000#32)) (radius x y) (cst 0x3F800000#32))) (cst 0x40000000#32)
  subf u2 (roundeven u2)
/-- The cosine's polynomial in the square of the turn. -/
def cosP (w : FVec F S512x128 .f32) : FVec F S512x128 .f32 :=
  have z := mulf w w
  addf (mulf (addf (mulf (addf (mulf (addf (mulf (addf (mulf (cst 0xC1AA43A1#32) z) (cst 0x426BA675#32)) z) (cst 0xC2AA978A#32)) z) (cst 0x4281DC79#32)) z) (cst 0xC19DE98B#32)) z) (cst 0x3F7FFFF7#32)
/-- The sine's. -/
def sinP (w : FVec F S512x128 .f32) : FVec F S512x128 .f32 :=
  have z := mulf w w
  mulf w (addf (mulf (addf (mulf (addf (mulf (addf (mulf (addf (mulf (cst 0xC14938F2#32) z) (cst 0x42259D23#32)) z) (cst 0xC29940CC#32)) z) (cst 0x42A333AB#32)) z) (cst 0xC2255DD1#32)) z) (cst 0x40C90FDA#32))
/-- The first components' block. -/
def evenV (p : FVec F S8x128 .f32) (s : F .f32) (r a b g : FVec F S512x128 .f32) : FVec F S512x128 .f32 :=
  select (maskB p r) (mulf (radius (signed a) (signed b)) (cosP (turn (signed a) (signed b)))) (mulf g (broadcast S512x128 s))
/-- The second components' block. -/
def oddV (p : FVec F S8x128 .f32) (s : F .f32) (r a b g : FVec F S512x128 .f32) : FVec F S512x128 .f32 :=
  select (maskB p r)
    (mulf (select (dom (signed a) (signed b)) (radius (signed a) (signed b)) (subf (cst 0x00000000#32) (radius (signed a) (signed b))))
      (sinP (turn (signed a) (signed b))))
    (mulf g (broadcast S512x128 s))

theorem half_lt (q : S1024x128.Idx) : (q 0).val / 2 < 512 := by
  have h : (q 0).val < 1024 := (q 0).isLt
  omega
/-- Row `q` of a block of pairs, as a row of its half. -/
abbrev half (q : S1024x128.Idx) : S512x128.Idx := ValueIdx.ix2 ⟨(q 0).val / 2, half_lt q⟩ (q 1)
/-- The block of pairs a chunk's three inputs give: even rows and odd rows interleaved. -/
def blockOut (p : FVec F S8x128 .f32) (s : F .f32) (r : FVec F S512x128 .f32) (w g : FVec F S1024x128 .f32) : FVec F S1024x128 .f32 := fun q =>
  if (q 0).val % 2 = 0 then evenV p s r (fun j => w (evenR.idx j)) (fun j => w (oddR.idx j)) (fun j => g (evenR.idx j)) (half q)
  else oddV p s r (fun j => w (evenR.idx j)) (fun j => w (oddR.idx j)) (fun j => g (oddR.idx j)) (half q)

/-! ## The programs -/

/-- Start chunk `i`'s three input transfers into slot `b`. -/
def startIn (b : Fin 8) (i : Fin 64) : KProg F PUnit := do
  Prog.lift (.enqueueDma (xC i) (.here (xS b)) (.dma (xCell b).sem) (View.wordExact_bits rfl) ((View.wordExact_bits rfl).reshape _ _) ⟨Or.inl rfl, trivial⟩)
  Prog.lift (.enqueueDma (woC i) (.here (woS b)) (.dma (woCell b).sem) (View.wordExact_bits rfl) ((View.wordExact_bits rfl).reshape _ _) ⟨Or.inl rfl, trivial⟩)
  Prog.lift (.enqueueDma (gC i) (.here (gS b)) (.dma (gCell b).sem) (View.wordExact_bits rfl) ((View.wordExact_bits rfl).reshape _ _) ⟨Or.inl rfl, trivial⟩)
/-- Wait for them. -/
def waitIn (b : Fin 8) (i : Fin 64) : KProg F PUnit := do
  Prog.lift (.waitDma2 (xCell b).sem (xC i) (xS b) (View.wordExact_bits rfl) ((View.wordExact_bits rfl).reshape _ _))
  Prog.lift (.waitDma2 (woCell b).sem (woC i) (woS b) (View.wordExact_bits rfl) ((View.wordExact_bits rfl).reshape _ _))
  Prog.lift (.waitDma2 (gCell b).sem (gC i) (gS b) (View.wordExact_bits rfl) ((View.wordExact_bits rfl).reshape _ _))
/-- Start the output transfer of slot `b` to chunk `i`. -/
def startOut (b : Fin 8) (i : Fin 64) : KProg F PUnit :=
  Prog.lift (.enqueueDma (oS b) (.here (oC i)) (.dma (oCell b).sem) ((View.wordExact_bits rfl).reshape _ _) (View.wordExact_bits rfl) ⟨Or.inl rfl, trivial⟩)
/-- Wait for it. -/
def waitOut (b : Fin 8) (i : Fin 64) : KProg F PUnit :=
  Prog.lift (.waitDma2 (oCell b).sem (oS b) (oC i) ((View.wordExact_bits rfl).reshape _ _) (View.wordExact_bits rfl))
/-- Compute slot `b`: read the three inputs, write the even and the odd rows of the output slot. -/
def compute (p : FVec F S8x128 .f32) (s : F .f32) (b : Fin 8) : KProg F PUnit := do
  let r : Vec F S1x512x128 .f32 ← Prog.lift (.load xB (xR b).toLoadRect (View.loadsAt_vmem h_S1x512x128))
  let u : Vec F S512x128 .f32 ← Prog.lift (.load (woS b) evenR (View.loadsAt_vmem h_S512x128))
  let v : Vec F S512x128 .f32 ← Prog.lift (.load (woS b) oddR (View.loadsAt_vmem h_S512x128))
  let gx : Vec F S512x128 .f32 ← Prog.lift (.load (gS b) evenR (View.loadsAt_vmem h_S512x128))
  let _ : Vec F S512x128 .f32 ← Prog.lift (.load (oS b) evenR (View.loadsAt_vmem h_S512x128))
  Prog.lift (.store (oS b) ⟨evenR, spos_2_1⟩ (shapeCast S512x128 (evenV p s (shapeCast S512x128 r shapeCasts_S1x512x128_S512x128) u v gx) shapeCasts_S512x128_S512x128) Finset.univ (View.stores_vmem_bits_univ h_S512x128 rfl) (.inl rfl))
  let gy : Vec F S512x128 .f32 ← Prog.lift (.load (gS b) oddR (View.loadsAt_vmem h_S512x128))
  let _ : Vec F S512x128 .f32 ← Prog.lift (.load (oS b) oddR (View.loadsAt_vmem h_S512x128))
  Prog.lift (.store (oS b) ⟨oddR, spos_2_1⟩ (shapeCast S512x128 (oddV p s (shapeCast S512x128 r shapeCasts_S1x512x128_S512x128) u v gy) shapeCasts_S512x128_S512x128) Finset.univ (View.stores_vmem_bits_univ h_S512x128 rfl) (.inl rfl))

/-- The chunk slot `b` works on in trip `k`. -/
abbrev chunk (k : Nat) (b : Fin 8) : Fin 64 := Fin.ofNat 64 (8 * k + b.val)

/-- Slot `b`'s share of trip `k`. -/
def slotProg (p : FVec F S8x128 .f32) (s : F .f32) (k : Nat) (b : Fin 8) : KProg F PUnit := do
  waitIn b (chunk k b)
  (match k with | 0 => pure ⟨⟩ | j + 1 => waitOut b (chunk j b))
  compute p s b
  startOut b (chunk k b)
  (match Nat.ble 7 k with | true => pure ⟨⟩ | false => startIn b (chunk (k + 1) b))

/-- The body's trip on the kernel's own operands. -/
abbrev tripG (arg0 : Memref sig .tc .smem S1x2 .f32) (harg0 : arg0.IsWhole) (p : FVec F S8x128 .f32) (k : Fin k0_t1_loop.trips) : KProg F Unit :=
  k0_t1_body (F := F) arg0 harg0 xM (Memref.isWhole_whole _) woM (Memref.isWhole_whole _) gM (Memref.isWhole_whole _) oM (Memref.isWhole_whole _)
    xB (Memref.isWhole_whole _) woB (Memref.isWhole_whole _) gB (Memref.isWhole_whole _) oB (Memref.isWhole_whole _)
    cc0_scratch4 cc0_scratch5 cc0_scratch6 cc0_scratch7 p k ()

/-- Trip `k` is the eight slots' shares in order. -/
def tripProg (p : FVec F S8x128 .f32) (s : F .f32) (k : Nat) : KProg F Unit := do
  slotProg p s k 0
  slotProg p s k 1
  slotProg p s k 2
  slotProg p s k 3
  slotProg p s k 4
  slotProg p s k 5
  slotProg p s k 6
  slotProg p s k 7
  pure ()

/-- The printed region of a trip is those shares, at each of the eight trips. -/
theorem trip_eq (arg0 : Memref sig .tc .smem S1x2 .f32) (harg0 : arg0.IsWhole) (p : FVec F S8x128 .f32) (k : Fin k0_t1_loop.trips) :
    tripG arg0 harg0 p k = tripProg p (k0_pay117 (F := F)) k.val := by
  obtain ⟨k, hk⟩ := k
  have h8 : k < 8 := hk
  interval_cases k <;> sl_kernel_rfl

/-- The mixing probability on an 8 by 128 block, from the two scores. -/
def probV (a b : F .f32) : FVec F S8x128 .f32 :=
  have m := Scalar.maximumf a b
  have ea : FVec F S8x128 .f32 := exp (broadcast S8x128 (Scalar.subf a m))
  have eb : FVec F S8x128 .f32 := exp (broadcast S8x128 (Scalar.subf b m))
  divf eb (addf ea eb)

/-- The loop, and the first four output transfers waited after it. -/
def loopProg (arg0 : Memref sig .tc .smem S1x2 .f32) (harg0 : arg0.IsWhole) (p : FVec F S8x128 .f32) : KProg F PUnit := do
  Scf.Loop.for k0_t1_loop k0_t1_ok () fun k _ => tripG arg0 harg0 p k
  waitOut 0 (chunk 7 0)
  waitOut 1 (chunk 7 1)
  waitOut 2 (chunk 7 2)
  waitOut 3 (chunk 7 3)
/-- The body: the probability, the first eight chunks started, the loop, the last eight output transfers waited. -/
def bodyProg (arg0 : Memref sig .tc .smem S1x2 .f32) (harg0 : arg0.IsWhole) : KProg F PUnit := do
  let a : Elt F .f32 ← smemLoad arg0 (Rect.unit (s := S1x2) ![0, 0] S1x1.size inb_S1x2_S1x1_0_0) numel1_S1x1 rfl
  let b : Elt F .f32 ← smemLoad arg0 (Rect.unit (s := S1x2) ![0, 1] S1x1.size inb_S1x2_S1x1_0_1) numel1_S1x1 rfl
  startIn 0 (chunk 0 0)
  startIn 1 (chunk 0 1)
  startIn 2 (chunk 0 2)
  startIn 3 (chunk 0 3)
  startIn 4 (chunk 0 4)
  startIn 5 (chunk 0 5)
  startIn 6 (chunk 0 6)
  startIn 7 (chunk 0 7)
  loopProg arg0 harg0 (probV a b)
  waitOut 4 (chunk 7 4)
  waitOut 5 (chunk 7 5)
  waitOut 6 (chunk 7 6)
  waitOut 7 (chunk 7 7)
  pure ⟨⟩

/-- The printed body on the kernel's own operands. -/
abbrev bodyG (arg0 : Memref sig .tc .smem S1x2 .f32) (harg0 : arg0.IsWhole) : KProg F PUnit :=
  cc0__body (F := F) arg0 harg0 xM (Memref.isWhole_whole _) woM (Memref.isWhole_whole _) gM (Memref.isWhole_whole _) oM (Memref.isWhole_whole _)
    xB (Memref.isWhole_whole _) woB (Memref.isWhole_whole _) gB (Memref.isWhole_whole _) oB (Memref.isWhole_whole _)
    cc0_scratch4 cc0_scratch5 cc0_scratch6 cc0_scratch7

theorem body_eq (arg0 : Memref sig .tc .smem S1x2 .f32) (harg0 : arg0.IsWhole) : bodyG (F := F) arg0 harg0 = bodyProg arg0 harg0 := by
  sl_kernel_rfl

end Cert.Proof.KIdeal

end
-- ==== Proof.Slots.lean ====
/-
  The resources of one slot of the ring, and the slot's share of a trip run on them: what each program of `Slot.lean`
  takes and gives back.
-/
module

public import proofs.«01_k».proof.Proof.Slot
public import Idealize.ShloMosaic.Lib.VecWindow
public import Idealize.ShloMosaic.Lib.Pipeline.Value

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Slots

variable (c : Dev nD)

/-- A memref's contents, and its elements held at them. -/
abbrev Con (F : FTy → Type) {sp : Space} {s : Shape} {e : EltTy} (M : Memref sig .tc sp s e) : Type := Buf (Elt F) (M.view.loc (c : Thread nD τ))
abbrev at' {sp : Space} {s : Shape} {e : EltTy} (M : Memref sig .tc sp s e) (f : Con c F M) : sProp 𝕄 :=
  M.view.loc (c : Thread nD τ) ↦[M.view.set]{fullShare} f
/-- A memref's elements held at values. -/
abbrev hold {sp : Space} {s : Shape} {e : EltTy} (M : Memref sig .tc sp s e) (v : s.Idx → Elt F e) : sProp 𝕄 := at' c M (M.view.rep v)
/-- A semaphore at zero. -/
abbrev cellP (s : DmaSems sig S_) : sProp 𝕄 := semVal ((c : Thread nD τ), SemLoc.dma s.sem) 0
/-- What the core owes. -/
abbrev ow : sProp 𝕄 := iprop(∃ W, owes (c : Thread nD τ) 0 W)

/-- What a whole transfer leaves, by the values it moved. -/
theorem at'_landed {sp : Space} {s : Shape} {e : EltTy} (M : Memref sig .tc sp s e) (f : Con c F M) (v : s.Idx → Elt F e) :
    at' c M (M.view.writes (Elt F) f [⟨Rect.whole s, v⟩]) ⊢ (hold c M v : sProp 𝕄) :=
  pointsTo_rep_of_read (c : Thread nD τ) M _ _ v (View.read_writes_whole _ _ _)

/-- Two contents of a memref that read the same are the same resource. -/
theorem at'_congr {sp : Space} {s : Shape} {e : EltTy} (M : Memref sig .tc sp s e) (f g : Con c F M)
    (h : M.view.read (Elt F) f = M.view.read (Elt F) g) : (at' c M f : sProp 𝕄) ⊢ at' c M g :=
  (pointsTo_rep_of_read (c : Thread nD τ) M f _ _ h).trans
    (entails_of_eq (pointsTo_rep (Ix := Unit) (Name := ℕ) (U := UU nD τ) (Lvl := ℕ) (c : Thread nD τ) M g fullShare).symm)

/-- A transfer in flight. -/
abbrev Fl (s : DmaSems sig S_) (N : ℕ) (D : sProp 𝕄) : sProp 𝕄 :=
  Transfers.Flight countersEmb (c : Thread nD τ) (SemLoc.dma s.sem) () N D

variable (XX : Con c F xM) (XW : Con c F woM) (XG : Con c F gM)

/-- The values of chunk `i` of each input. -/
abbrev vX (i : Fin 64) : FVec F S512x128 .f32 := (xC i).view.read (Elt F) XX
abbrev vW (i : Fin 64) : FVec F S1024x128 .f32 := (woC i).view.read (Elt F) XW
abbrev vG (i : Fin 64) : FVec F S1024x128 .f32 := (gC i).view.read (Elt F) XG

/-- Chunk `i` of the three inputs, held at their contents. -/
def inHome (i : Fin 64) : sProp 𝕄 := iprop(at' c (xC i) XX ∗ at' c (woC i) XW ∗ at' c (gC i) XG)
/-- Slot `b`'s input side free: the three slots at anything, the three cells at zero. -/
def inFree (b : Fin 8) : sProp 𝕄 :=
  iprop((∃ f : Con c F (xS b), at' c (xS b) f) ∗ (∃ f : Con c F (woS b), at' c (woS b) f) ∗ (∃ f : Con c F (gS b), at' c (gS b) f)
    ∗ cellP c (xCell b) ∗ cellP c (woCell b) ∗ cellP c (gCell b))
/-- Slot `b` with chunk `i`'s three inputs in flight. -/
def inFlight (b : Fin 8) (i : Fin 64) : sProp 𝕄 :=
  iprop(Fl c (xCell b) 8192 iprop(hold c (xS b) (vX c XX i) ∗ at' c (xC i) XX)
    ∗ Fl c (woCell b) 16384 iprop(hold c (woS b) (vW c XW i) ∗ at' c (woC i) XW)
    ∗ Fl c (gCell b) 16384 iprop(hold c (gS b) (vG c XG i) ∗ at' c (gC i) XG))
/-- Slot `b` with chunk `i`'s three inputs landed. -/
def inLanded (b : Fin 8) (i : Fin 64) : sProp 𝕄 :=
  iprop(hold c (xS b) (vX c XX i) ∗ hold c (woS b) (vW c XW i) ∗ hold c (gS b) (vG c XG i)
    ∗ cellP c (xCell b) ∗ cellP c (woCell b) ∗ cellP c (gCell b))

variable (OUT : Con c F oM)

/-- Slot `b`'s output side free. -/
def outFree (b : Fin 8) : sProp 𝕄 := iprop((∃ f : Con c F (oS b), at' c (oS b) f) ∗ cellP c (oCell b))
/-- Slot `b` with its output to chunk `i` in flight, the chunk delivered at the result. -/
def outFlight (b : Fin 8) (i : Fin 64) : sProp 𝕄 :=
  iprop(∃ f : Con c F (oS b), Fl c (oCell b) 16384 iprop(at' c (oC i) OUT ∗ at' c (oS b) f))

/-- The three input transfers started. -/
theorem startIn_run (b : Fin 8) (i : Fin 64) (Q : PUnit → sProp 𝕄) :
    iprop((inHome c XX XW XG i ∗ inFree c b ∗ ow c) ∗ (iprop(inFlight c XX XW XG b i ∗ ow c) -∗ Q ⟨⟩))
      ⊢ wp frame (wpE (defs₀ (F := F)) 𝒱₀ (c : Thread nD τ) none) Set.univ (startIn b i) Q := by
  unfold inHome inFree inFlight
  iintro ⟨⟨⟨Hx, Hw, Hg⟩, ⟨⟨%fx, Sx⟩, ⟨%fw, Sw⟩, ⟨%fg, Sg⟩, Cx, Cw, Cg⟩, ⟨%W, HW⟩⟩, Hk⟩
  sl_unfold [startIn]
  sl_exec
  sl_step
  iapply Hk
  isplitl [Cx Cw Cg]
  · isplitl [Cx]
    · iapply (Transfers.Flight_mono countersEmb (c : Thread nD τ) (sep_mono_left (at'_landed c (xS b) fx _))); iexact Cx
    isplitl [Cw]
    · iapply (Transfers.Flight_mono countersEmb (c : Thread nD τ) (sep_mono_left (at'_landed c (woS b) fw _))); iexact Cw
    · iapply (Transfers.Flight_mono countersEmb (c : Thread nD τ) (sep_mono_left (at'_landed c (gS b) fg _))); iexact Cg
  iexists W; iexact HW

/-- The three input transfers waited for. -/
theorem waitIn_run (b : Fin 8) (i : Fin 64) (Q : PUnit → sProp 𝕄) :
    iprop((inFlight c XX XW XG b i ∗ ow c) ∗ (iprop(inLanded c XX XW XG b i ∗ inHome c XX XW XG i ∗ ow c) -∗ Q ⟨⟩))
      ⊢ wp frame (wpE (defs₀ (F := F)) 𝒱₀ (c : Thread nD τ) none) Set.univ (waitIn b i) Q := by
  unfold inHome inFlight inLanded
  iintro ⟨⟨⟨Cx, Cw, Cg⟩, ⟨%W, HW⟩⟩, Hk⟩
  sl_unfold [waitIn]
  sl_exec
  sl_step
  iapply Hk
  isplitl [Cx_dst Cw_dst Cg_dst Cx Cw Cg]
  · isplitl [Cx_dst]; · iexact Cx_dst
    isplitl [Cw_dst]; · iexact Cw_dst
    isplitl [Cg_dst]; · iexact Cg_dst
    isplitl [Cx]; · iexact Cx
    isplitl [Cw]; · iexact Cw
    iexact Cg
  isplitl [Cx_src Cw_src Cg_src]
  · isplitl [Cx_src]; · iexact Cx_src
    isplitl [Cw_src]; · iexact Cw_src
    iexact Cg_src
  iexists _; iexact HW

/-- The output transfer waited for. -/
theorem waitOut_run (b : Fin 8) (i : Fin 64) (Q : PUnit → sProp 𝕄) :
    iprop((outFlight c OUT b i ∗ ow c) ∗ (iprop(outFree c b ∗ at' c (oC i) OUT ∗ ow c) -∗ Q ⟨⟩))
      ⊢ wp frame (wpE (defs₀ (F := F)) 𝒱₀ (c : Thread nD τ) none) Set.univ (waitOut b i) Q := by
  unfold outFlight outFree
  iintro ⟨⟨⟨%f, Co⟩, ⟨%W, HW⟩⟩, Hk⟩
  sl_unfold [waitOut]
  sl_exec
  sl_step
  iapply Hk
  isplitl [Co_src Co]
  · isplitl [Co_src]; · iexists _; iexact Co_src
    iexact Co
  isplitl [Co_dst]; · iexact Co_dst
  iexists _; iexact HW

omit [FloatOps F] in
/-- A slot's rectangle of the first buffer, its leading axis of one dropped, is the slot's block. -/
theorem slot_read (b : Fin 8) (f : xB.view.ty.Contents (Elt F)) :
    shapeCast S512x128 (View.readAt (Elt F) xB.view (xR b).toLoadRect f) shapeCasts_S1x512x128_S512x128 = (xS b).view.read (Elt F) f := rfl

/-- The even rows' and the odd rows' places in a block of pairs. -/
theorem half_even (x : S512x128.Idx) : ((evenR.idx x) 0).val % 2 = 0 ∧ half (evenR.idx x) = x := by
  have h : ((evenR.idx x) 0).val = 0 + 2 * (x 0).val := rfl
  refine ⟨by omega, ?_⟩
  rw [ValueIdx.eq_ix2 x]
  refine congrArg₂ ValueIdx.ix2 (Fin.ext ?_) (Fin.ext ?_)
  · show ((evenR.idx x) 0).val / 2 = (x 0).val
    omega
  · show 0 + 1 * (x 1).val = (x 1).val
    omega
theorem half_odd (x : S512x128.Idx) : ((oddR.idx x) 0).val % 2 = 1 ∧ half (oddR.idx x) = x := by
  have h : ((oddR.idx x) 0).val = 1 + 2 * (x 0).val := rfl
  refine ⟨by omega, ?_⟩
  rw [ValueIdx.eq_ix2 x]
  refine congrArg₂ ValueIdx.ix2 (Fin.ext ?_) (Fin.ext ?_)
  · show ((oddR.idx x) 0).val / 2 = (x 0).val
    omega
  · show 0 + 1 * (x 1).val = (x 1).val
    omega
/-- Every place of a block of pairs is one of them. -/
theorem idx_half (q : S1024x128.Idx) : ((q 0).val % 2 = 0 → evenR.idx (half q) = q) ∧ ((q 0).val % 2 = 1 → oddR.idx (half q) = q) := by
  refine ⟨fun h => ?_, fun h => ?_⟩ <;> funext a <;> refine Fin.ext ?_ <;> fin_cases a
  · show 0 + 2 * ((q 0).val / 2) = (q 0).val
    omega
  · show 0 + 1 * (q 1).val = (q 1).val
    omega
  · show 1 + 2 * ((q 0).val / 2) = (q 0).val
    omega
  · show 0 + 1 * (q 1).val = (q 1).val
    omega

/-- What the two strided stores leave in the output slot is the block of pairs. -/
theorem out_read (p : FVec F S8x128 .f32) (s : F .f32) (b : Fin 8) (R r : FVec F S512x128 .f32) (w g : FVec F S1024x128 .f32) (hR : R = r)
    (fo : (oS b).view.ty.Contents (Elt F)) :
    (oS b).view.read (Elt F) ((oS b).view.writes (Elt F) fo
      [⟨⟨oddR, spos_2_1⟩, shapeCast S512x128 (oddV p s
          R
          (View.readAt (Elt F) (woS b).view evenR ((woS b).view.rep w)) (View.readAt (Elt F) (woS b).view oddR ((woS b).view.rep w))
          (View.readAt (Elt F) (gS b).view oddR ((gS b).view.rep g))) shapeCasts_S512x128_S512x128⟩,
       ⟨⟨evenR, spos_2_1⟩, shapeCast S512x128 (evenV p s
          R
          (View.readAt (Elt F) (woS b).view evenR ((woS b).view.rep w)) (View.readAt (Elt F) (woS b).view oddR ((woS b).view.rep w))
          (View.readAt (Elt F) (gS b).view evenR ((gS b).view.rep g))) shapeCasts_S512x128_S512x128⟩])
      = blockOut p s r w g := by
  subst hR
  rw [View.readAt_rep, View.readAt_rep, View.readAt_rep, View.readAt_rep, shapeCast_self, shapeCast_self]
  funext q
  refine View.read_writes_apply_of_pieces (Val := Elt F) (oS b).view fo (blockOut p s R w g) _ ?_ q ?_
  · rintro pc (_ | ⟨_, _ | ⟨_, hn⟩⟩) x
    · obtain ⟨h, hh⟩ := half_odd x
      show oddV _ _ _ _ _ _ x = blockOut p s R w g (oddR.idx x)
      rw [blockOut, if_neg (by omega), hh]
    · obtain ⟨h, hh⟩ := half_even x
      show evenV _ _ _ _ _ _ x = blockOut p s R w g (evenR.idx x)
      rw [blockOut, if_pos h, hh]
    · exact absurd hn List.not_mem_nil
  · rcases Nat.mod_two_eq_zero_or_one (q 0).val with h | h
    · refine ⟨_, List.mem_cons_of_mem _ List.mem_cons_self, ?_⟩
      rw [← (idx_half q).1 h]
      exact LoadRect.idx_mem _ _
    · refine ⟨_, List.mem_cons_self, ?_⟩
      rw [← (idx_half q).2 h]
      exact LoadRect.idx_mem _ _

/-- The slot computed from its landed inputs and its output transfer started. -/
theorem compute_run (p : FVec F S8x128 .f32) (s : F .f32) (b : Fin 8) (i : Fin 64)
    (hO : (oC i).view.read (Elt F) OUT = blockOut p s (vX c XX i) (vW c XW i) (vG c XG i)) (Q : PUnit → sProp 𝕄) :
    iprop((inLanded c XX XW XG b i ∗ outFree c b ∗ (∃ f : Con c F (oC i), at' c (oC i) f) ∗ ow c)
        ∗ (iprop(inFree c b ∗ outFlight c OUT b i ∗ ow c) -∗ Q ⟨⟩))
      ⊢ wp frame (wpE (defs₀ (F := F)) 𝒱₀ (c : Thread nD τ) none) Set.univ (compute p s b >>= fun _ => startOut b i) Q := by
  unfold inLanded outFree inFree outFlight
  iintro ⟨⟨⟨Sx, Sw, Sg, Cx, Cw, Cg⟩, ⟨⟨%fo, So⟩, Co⟩, ⟨%XO, HO⟩, ⟨%W, HW⟩⟩, Hk⟩
  sl_unfold [compute, startOut]
  sl_exec
  sl_step
  iapply Hk
  isplitl [Sx Sw Sg Cx Cw Cg]
  · isplitl [Sx]; · iexists _; iexact Sx
    isplitl [Sw]; · iexists _; iexact Sw
    isplitl [Sg]; · iexists _; iexact Sg
    isplitl [Cx]; · iexact Cx
    isplitl [Cw]; · iexact Cw
    iexact Cg
  isplitl [Co]
  · iexists _
    refine Transfers.Flight_mono countersEmb (c : Thread nD τ) (sep_mono_left (at'_congr c (oC i) _ OUT ?_))
    rw [View.read_writes_whole, hO]
    exact out_read p s b _ (vX c XX i) (vW c XW i) (vG c XG i) ((slot_read b _).trans (View.read_rep _ _)) fo
  iexists W; iexact HW

end Slots

end Cert.Proof.KIdeal

end
-- ==== Proof.Ring.lean ====
/-
  The ring: one slot's share of a trip, the eight slots' shares as a trip, the loop, and the whole body, each as what it
  takes and what it gives back.
-/
module

public import proofs.«01_k».proof.Proof.Slots

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Runs

variable (c : Dev nD)

/-- Running `m` from `P` ends with `R`. -/
def Runs (P : sProp 𝕄) (m : KProg F PUnit) (R : sProp 𝕄) : Prop :=
  P ⊢ wp Idealize.ShloMosaic.frame (wpE (defs₀ (F := F)) 𝒱₀ (c : Thread nD τ) none) Set.univ m (fun _ => R)

variable {c}

/-- A run stated with its continuation. -/
theorem Runs.of_cont {P R : sProp 𝕄} {m : KProg F PUnit}
    (h : ∀ Q : PUnit → sProp 𝕄, iprop(P ∗ (R -∗ Q ⟨⟩)) ⊢ wp Idealize.ShloMosaic.frame (wpE (defs₀ (F := F)) 𝒱₀ (c : Thread nD τ) none) Set.univ m Q) :
    Runs c P m R := by
  unfold Runs
  iintro H
  iapply (h fun _ => R)
  isplitl [H]
  · iexact H
  iintro H; iexact H
/-- Two runs in a row. -/
theorem Runs.bind {P R T : sProp 𝕄} {m m' : KProg F PUnit} (h : Runs c P m R) (h' : Runs c R m' T) : Runs c P (m >>= fun _ => m') T := by
  unfold Runs at *
  rw [wp_bind]
  exact h.trans (wp_mono _ _ _ fun _ => h')
/-- The same where the first is itself two in a row. -/
theorem Runs.bind₂ {P R T : sProp 𝕄} {a b m : KProg F PUnit} (h : Runs c P (a >>= fun _ => b) R) (h' : Runs c R m T) :
    Runs c P (a >>= fun _ => b >>= fun _ => m) T := by
  unfold Runs at *
  rw [wp_bind] at h ⊢
  refine h.trans (wp_mono _ _ _ fun _ => ?_)
  rw [wp_bind]
  exact wp_mono _ _ _ fun _ => h'
/-- Nothing run. -/
theorem Runs.done {P : sProp 𝕄} : Runs c P (pure ⟨⟩) P := by
  unfold Runs
  rw [wp_pure]
  iintro H; imodintro; iexact H
/-- From more, to less. -/
theorem Runs.conseq {P P' R R' : sProp 𝕄} {m : KProg F PUnit} (h : Runs c P' m R') (hP : P ⊢ P') (hR : R' ⊢ R) : Runs c P m R :=
  hP.trans (h.trans (wp_mono _ _ _ fun _ => hR))
/-- With what the run does not touch. -/
theorem Runs.keep {P R : sProp 𝕄} {m : KProg F PUnit} (h : Runs c P m R) (X : sProp 𝕄) : Runs c iprop(P ∗ X) m iprop(R ∗ X) := by
  unfold Runs at *
  exact (sep_mono_left h).trans (wp_frame_r _ _ _)
/-- The same, what the core owes kept last. -/
theorem Runs.aside {P R W : sProp 𝕄} {m : KProg F PUnit} (h : Runs c iprop(P ∗ W) m iprop(R ∗ W)) (X : sProp 𝕄) :
    Runs c iprop(P ∗ X ∗ W) m iprop(R ∗ X ∗ W) := by
  refine (h.keep X).conseq ?_ ?_
  · iintro ⟨A, B, C⟩
    isplitr [B]
    · isplitl [A] <;> iassumption
    · iassumption
  · iintro ⟨⟨A, C⟩, B⟩
    isplitl [A]; · iassumption
    isplitl [B] <;> iassumption

variable (c) in
/-- Eight parts of which the first `n` have moved on. -/
def mix (A B : Fin 8 → sProp 𝕄) (n : ℕ) : sProp 𝕄 := bigSep Finset.univ fun b : Fin 8 => if b.val < n then B b else A b

omit [FloatOps F] in
theorem mix_zero (A B : Fin 8 → sProp 𝕄) : mix A B 0 = bigSep Finset.univ A := bigSep_congr fun b _ => if_neg (Nat.not_lt_zero _)
omit [FloatOps F] in
theorem mix_eight (A B : Fin 8 → sProp 𝕄) : mix A B 8 = bigSep Finset.univ B := bigSep_congr fun b _ => if_pos b.isLt

/-- Part `b` moves on. -/
theorem Runs.mixed {A B : Fin 8 → sProp 𝕄} {W : sProp 𝕄} {m : Fin 8 → KProg F PUnit} (h : ∀ b, Runs c iprop(A b ∗ W) (m b) iprop(B b ∗ W)) (b : Fin 8) :
    Runs c iprop(mix A B b.val ∗ W) (m b) iprop(mix A B (b.val + 1) ∗ W) := by
  have e1 : mix A B b.val = iprop(A b ∗ bigSep (Finset.univ.erase b) fun b' : Fin 8 => if b'.val < b.val then B b' else A b') := by
    unfold mix
    rw [bigSep_univ_split b, if_neg (Nat.lt_irrefl _)]
    rfl
  have e2 : mix A B (b.val + 1) = iprop(B b ∗ bigSep (Finset.univ.erase b) fun b' : Fin 8 => if b'.val < b.val then B b' else A b') := by
    unfold mix
    rw [bigSep_univ_split b, if_pos (Nat.lt_succ_self _)]
    congr 1
    refine bigSep_congr fun b' hb' => ?_
    have hne : b'.val ≠ b.val := fun e => Finset.ne_of_mem_erase hb' (Fin.ext e)
    by_cases hlt : b'.val < b.val
    · rw [if_pos hlt, if_pos (by omega)]
    · rw [if_neg hlt, if_neg (by omega)]
  rw [e1, e2]
  refine ((h b).aside (bigSep (Finset.univ.erase b) fun b' : Fin 8 => if b'.val < b.val then B b' else A b')).conseq ?_ ?_
  · iintro ⟨⟨A, B⟩, C⟩
    isplitl [A]; · iassumption
    isplitl [B] <;> iassumption
  · iintro ⟨A, B, C⟩
    isplitr [C]
    · isplitl [A] <;> iassumption
    · iassumption

end Runs

section Ring

variable (c : Dev nD) (XX : Con c F xM) (XW : Con c F woM) (XG : Con c F gM) (OUT : Con c F oM)

/-- The trips other than `k`. -/
abbrev others (k : ℕ) : Finset (Fin 8) := Finset.univ.filter fun j => j.val ≠ k

omit [FloatOps F] in
theorem trip_split (k : ℕ) (hk : k < 8) (Φ : Fin 8 → sProp 𝕄) : bigSep Finset.univ Φ = iprop(Φ ⟨k, hk⟩ ∗ bigSep (others k) Φ) := by
  rw [bigSep_univ_split ⟨k, hk⟩]
  congr 1
  rw [show (Finset.univ.erase (⟨k, hk⟩ : Fin 8)) = others k from Finset.ext fun j => by simp [Fin.ext_iff]]

/-- Slot `b`'s input chunks at home: all of them, all but trip `k`'s. -/
def homes (b : Fin 8) : sProp 𝕄 := bigSep Finset.univ fun j : Fin 8 => inHome c XX XW XG (chunk j.val b)
def homesBut (k : ℕ) (b : Fin 8) : sProp 𝕄 := bigSep (others k) fun j : Fin 8 => inHome c XX XW XG (chunk j.val b)
theorem homes_split (k : ℕ) (hk : k < 8) (b : Fin 8) : homes c XX XW XG b = iprop(inHome c XX XW XG (chunk k b) ∗ homesBut c XX XW XG k b) :=
  trip_split k hk _

/-- Slot `b`'s input side before trip `k`: the trip's chunk in flight. After the last trip, free. -/
def ins (k : ℕ) (b : Fin 8) : sProp 𝕄 :=
  if k < 8 then iprop(inFlight c XX XW XG b (chunk k b) ∗ homesBut c XX XW XG k b) else iprop(inFree c b ∗ homes c XX XW XG b)

/-- Output chunk `j` of slot `b` before trip `k`'s result is on its way: at the result for the trips before, else at anything. -/
def outHome (k : ℕ) (b j : Fin 8) : sProp 𝕄 :=
  if j.val < k then at' c (oC (chunk j.val b)) OUT else iprop(∃ f : Con c F (oC (chunk j.val b)), at' c (oC (chunk j.val b)) f)

/-- Slot `b`'s output side before trip `k`, its transfer (if any) landed: free, the chunks at home. -/
def outsFree (k : ℕ) (b : Fin 8) : sProp 𝕄 := iprop(outFree c b ∗ bigSep Finset.univ (outHome c OUT k b))
/-- Slot `b`'s output side before trip `k`: the last trip's transfer in flight. -/
def outs : ℕ → Fin 8 → sProp 𝕄
  | 0, b => outsFree c OUT 0 b
  | k + 1, b => iprop(outFlight c OUT b (chunk k b) ∗ bigSep (others k) (outHome c OUT k b))

/-- The trip's inputs landed. -/
theorem waitIn_step (k : ℕ) (hk : k < 8) (b : Fin 8) :
    Runs c iprop(ins c XX XW XG k b ∗ ow c) (waitIn b (chunk k b)) iprop((inLanded c XX XW XG b (chunk k b) ∗ homes c XX XW XG b) ∗ ow c) := by
  refine ((Runs.of_cont (waitIn_run c XX XW XG b (chunk k b))).keep (homesBut c XX XW XG k b)).conseq ?_ ?_
  · rw [ins, if_pos hk]
    iintro ⟨⟨A, B⟩, C⟩
    isplitr [B]
    · isplitl [A] <;> iassumption
    · iassumption
  · rw [homes_split c XX XW XG k hk]
    iintro ⟨⟨A, H, C⟩, B⟩
    isplitr [C]
    · isplitl [A]; · iassumption
      isplitl [H] <;> iassumption
    · iassumption

theorem outHome_done (k : ℕ) (b j : Fin 8) (hj : j.val ≠ k) : (outHome c OUT (k + 1) b j : sProp 𝕄) = outHome c OUT k b j := by
  unfold outHome
  by_cases hlt : j.val < k
  · rw [if_pos hlt, if_pos (by omega)]
  · rw [if_neg hlt, if_neg (by omega)]

/-- The last trip's output transfer waited for. -/
theorem waitOut_step (k : ℕ) (hk : k < 8) (b : Fin 8) :
    Runs c iprop(outs c OUT (k + 1) b ∗ ow c) (waitOut b (chunk k b)) iprop(outsFree c OUT (k + 1) b ∗ ow c) := by
  refine ((Runs.of_cont (waitOut_run c OUT b (chunk k b))).keep (bigSep (others k) (outHome c OUT k b))).conseq ?_ ?_
  · unfold outs
    iintro ⟨⟨A, B⟩, C⟩
    isplitr [B]
    · isplitl [A] <;> iassumption
    · iassumption
  · unfold outsFree
    rw [trip_split k hk, bigSep_congr (s := others k) fun j hj => outHome_done c OUT k b j (Finset.mem_filter.mp hj).2]
    rw [outHome, if_pos (Nat.lt_succ_self k)]
    iintro ⟨⟨A, H, C⟩, B⟩
    isplitr [C]
    · isplitl [A]; · iassumption
      isplitl [H] <;> iassumption
    · iassumption
/-- The same as the trip's program says it: on trip 0 there is none. -/
theorem waitPrev_step (k : ℕ) (hk : k < 8) (b : Fin 8) :
    Runs c iprop(outs c OUT k b ∗ ow c) (match k with | 0 => pure ⟨⟩ | j + 1 => waitOut b (chunk j b)) iprop(outsFree c OUT k b ∗ ow c) := by
  cases k with
  | zero => exact Runs.done
  | succ k => exact waitOut_step c OUT k (by omega) b

/-- The trip's result computed and its transfer started. -/
theorem compute_step (p : FVec F S8x128 .f32) (s : F .f32) (k : ℕ) (hk : k < 8) (b : Fin 8)
    (hO : ∀ i, (oC i).view.read (Elt F) OUT = blockOut p s (vX c XX i) (vW c XW i) (vG c XG i)) :
    Runs c iprop((inLanded c XX XW XG b (chunk k b) ∗ homes c XX XW XG b) ∗ outsFree c OUT k b ∗ ow c)
      (compute p s b >>= fun _ => startOut b (chunk k b))
      iprop((inFree c b ∗ homes c XX XW XG b) ∗ outs c OUT (k + 1) b ∗ ow c) := by
  refine ((Runs.of_cont (compute_run c XX XW XG OUT p s b (chunk k b) (hO _))).keep
    iprop(homes c XX XW XG b ∗ bigSep (others k) (outHome c OUT k b))).conseq ?_ ?_
  · unfold outsFree
    rw [trip_split k hk, outHome, if_neg (Nat.lt_irrefl k)]
    iintro ⟨⟨A, B⟩, ⟨C, D, E⟩, G⟩
    isplitr [B E]
    · isplitl [A]; · iassumption
      isplitl [C]; · iassumption
      isplitl [D] <;> iassumption
    · isplitl [B] <;> iassumption
  · unfold outs
    iintro ⟨⟨A, B, C⟩, D, E⟩
    isplitl [A D]
    · isplitl [A] <;> iassumption
    isplitl [B E]
    · isplitl [B] <;> iassumption
    iassumption

/-- The next trip's inputs started. -/
theorem startIn_step (k : ℕ) (hk : k < 8) (b : Fin 8) :
    Runs c iprop((inFree c b ∗ homes c XX XW XG b) ∗ ow c) (startIn b (chunk k b)) iprop(ins c XX XW XG k b ∗ ow c) := by
  refine ((Runs.of_cont (startIn_run c XX XW XG b (chunk k b))).keep (homesBut c XX XW XG k b)).conseq ?_ ?_
  · rw [homes_split c XX XW XG k hk]
    iintro ⟨⟨A, B, D⟩, C⟩
    isplitr [D]
    · isplitl [B]; · iassumption
      isplitl [A] <;> iassumption
    · iassumption
  · rw [ins, if_pos hk]
    iintro ⟨⟨A, C⟩, B⟩
    isplitr [C]
    · isplitl [A] <;> iassumption
    · iassumption
/-- The same as the trip's program says it: after the last trip there is none. -/
theorem startNext_step (k : ℕ) (hk : k < 8) (b : Fin 8) :
    Runs c iprop((inFree c b ∗ homes c XX XW XG b) ∗ ow c)
      (match Nat.ble 7 k with | true => pure ⟨⟩ | false => startIn b (chunk (k + 1) b)) iprop(ins c XX XW XG (k + 1) b ∗ ow c) := by
  by_cases h7 : 7 ≤ k
  · rw [Nat.ble_eq_true_of_le h7, ins, if_neg (by omega)]
    exact Runs.done
  · rw [Bool.eq_false_iff.mpr fun e => h7 (Nat.le_of_ble_eq_true e)]
    exact startIn_step c XX XW XG (k + 1) (by omega) b

/-- Slot `b` before trip `k`. -/
def slotAt (k : ℕ) (b : Fin 8) : sProp 𝕄 := iprop(ins c XX XW XG k b ∗ outs c OUT k b)

/-- Slot `b`'s share of trip `k`. -/
theorem slot_step (p : FVec F S8x128 .f32) (s : F .f32) (k : ℕ) (hk : k < 8) (b : Fin 8)
    (hO : ∀ i, (oC i).view.read (Elt F) OUT = blockOut p s (vX c XX i) (vW c XW i) (vG c XG i)) :
    Runs c iprop(slotAt c XX XW XG OUT k b ∗ ow c) (slotProg p s k b) iprop(slotAt c XX XW XG OUT (k + 1) b ∗ ow c) := by
  unfold slotProg slotAt
  have h1 := (waitIn_step c XX XW XG k hk b).aside (outs c OUT k b)
  have h2 := (waitPrev_step c OUT k hk b).aside iprop(inLanded c XX XW XG b (chunk k b) ∗ homes c XX XW XG b)
  have h3 := compute_step c XX XW XG OUT p s k hk b hO
  have h4 := (startNext_step c XX XW XG k hk b).aside (outs c OUT (k + 1) b)
  refine Runs.bind (h1.conseq ?_ .rfl) (Runs.bind (h2.conseq ?_ .rfl) (Runs.bind₂ (h3.conseq ?_ .rfl) (h4.conseq .rfl ?_)))
  · iintro ⟨⟨A, B⟩, C⟩
    isplitl [A]; · iassumption
    isplitl [B] <;> iassumption
  · iintro ⟨A, B, C⟩
    isplitl [B]; · iassumption
    isplitl [A] <;> iassumption
  · iintro ⟨A, B, C⟩
    isplitl [B]; · iassumption
    isplitl [A] <;> iassumption
  · iintro ⟨A, B, C⟩
    isplitr [C]
    · isplitl [A] <;> iassumption
    · iassumption

/-- A trip. -/
theorem trip_step (p : FVec F S8x128 .f32) (s : F .f32) (k : ℕ) (hk : k < 8)
    (hO : ∀ i, (oC i).view.read (Elt F) OUT = blockOut p s (vX c XX i) (vW c XW i) (vG c XG i)) :
    Runs c iprop(bigSep Finset.univ (slotAt c XX XW XG OUT k) ∗ ow c) (tripProg p s k)
      iprop(bigSep Finset.univ (slotAt c XX XW XG OUT (k + 1)) ∗ ow c) := by
  have h := Runs.mixed (c := c) (m := slotProg p s k) fun b => slot_step c XX XW XG OUT p s k hk b hO
  rw [← mix_zero _ (slotAt c XX XW XG OUT (k + 1)), ← mix_eight (slotAt c XX XW XG OUT k)]
  unfold tripProg
  exact Runs.bind (h 0) (Runs.bind (h 1) (Runs.bind (h 2) (Runs.bind (h 3) (Runs.bind (h 4) (Runs.bind (h 5) (Runs.bind (h 6)
    (Runs.bind (h 7) Runs.done)))))))

/-- The loop: eight trips. -/
theorem loop_step (arg0 : Memref sig .tc .smem S1x2 .f32) (harg0 : arg0.IsWhole) (p : FVec F S8x128 .f32)
    (hO : ∀ i, (oC i).view.read (Elt F) OUT = blockOut p (k0_pay117 (F := F)) (vX c XX i) (vW c XW i) (vG c XG i)) :
    Runs c iprop(bigSep Finset.univ (slotAt c XX XW XG OUT 0) ∗ ow c)
      (Scf.Loop.for k0_t1_loop k0_t1_ok () fun k _ => tripG arg0 harg0 p k)
      iprop(bigSep Finset.univ (slotAt c XX XW XG OUT 8) ∗ ow c) := by
  have h := Scf.wp_for Idealize.ShloMosaic.frame (wpE (defs₀ (F := F)) 𝒱₀ (c : Thread nD τ) none) Set.univ
    k0_t1_loop.lb k0_t1_loop.ub k0_t1_loop.st k0_t1_ok () (fun k _ => tripG arg0 harg0 p k)
    (fun k _ => iprop(bigSep Finset.univ (slotAt c XX XW XG OUT k) ∗ ow c))
    (fun k _ => by
      rw [show tripG arg0 harg0 p k = _ from trip_eq arg0 harg0 p k]
      exact trip_step c XX XW XG OUT p _ k.val k.isLt hO)
    (Q := fun _ => iprop(bigSep Finset.univ (slotAt c XX XW XG OUT 8) ∗ ow c))
  unfold Runs
  iintro H
  iapply h
  isplitl [H]
  · iexact H
  iintro %_ H; iexact H

/-- Slot `b` with no transfer in flight, its inputs at home and its outputs at the result. -/
def slotEnd (b : Fin 8) : sProp 𝕄 := iprop((inFree c b ∗ homes c XX XW XG b) ∗ outsFree c OUT 8 b)

/-- The last output transfer of slot `b` waited for. -/
theorem last_step (b : Fin 8) :
    Runs c iprop(slotAt c XX XW XG OUT 8 b ∗ ow c) (waitOut b (chunk 7 b)) iprop(slotEnd c XX XW XG OUT b ∗ ow c) := by
  refine ((waitOut_step c OUT 7 (by omega) b).aside iprop(inFree c b ∗ homes c XX XW XG b)).conseq ?_ ?_
  · rw [slotAt, ins, if_neg (by omega)]
    iintro ⟨⟨A, B⟩, C⟩
    isplitl [B]; · iassumption
    isplitl [A] <;> iassumption
  · unfold slotEnd
    iintro ⟨A, B, C⟩
    isplitr [C]
    · isplitl [B] <;> iassumption
    · iassumption

/-- Slot `b` before its first transfer. -/
def slotStart (b : Fin 8) : sProp 𝕄 := iprop((inFree c b ∗ homes c XX XW XG b) ∗ outsFree c OUT 0 b)

theorem first_step (b : Fin 8) :
    Runs c iprop(slotStart c XX XW XG OUT b ∗ ow c) (startIn b (chunk 0 b)) iprop(slotAt c XX XW XG OUT 0 b ∗ ow c) := by
  refine ((startIn_step c XX XW XG 0 (by omega) b).aside (outsFree c OUT 0 b)).conseq ?_ ?_
  · unfold slotStart
    iintro ⟨⟨A, B⟩, C⟩
    isplitl [A]; · iassumption
    isplitl [B] <;> iassumption
  · unfold slotAt outs
    iintro ⟨A, B, C⟩
    isplitr [C]
    · isplitl [A] <;> iassumption
    · iassumption

/-- Everything after the two scores are read. -/
theorem rest_step (arg0 : Memref sig .tc .smem S1x2 .f32) (harg0 : arg0.IsWhole) (p : FVec F S8x128 .f32)
    (hO : ∀ i, (oC i).view.read (Elt F) OUT = blockOut p (k0_pay117 (F := F)) (vX c XX i) (vW c XW i) (vG c XG i)) :
    Runs c iprop(bigSep Finset.univ (slotStart c XX XW XG OUT) ∗ ow c) (do
      startIn 0 (chunk 0 0)
      startIn 1 (chunk 0 1)
      startIn 2 (chunk 0 2)
      startIn 3 (chunk 0 3)
      startIn 4 (chunk 0 4)
      startIn 5 (chunk 0 5)
      startIn 6 (chunk 0 6)
      startIn 7 (chunk 0 7)
      loopProg arg0 harg0 p
      waitOut 4 (chunk 7 4)
      waitOut 5 (chunk 7 5)
      waitOut 6 (chunk 7 6)
      waitOut 7 (chunk 7 7)
      pure ⟨⟩)
      iprop(bigSep Finset.univ (slotEnd c XX XW XG OUT) ∗ ow c) := by
  have h := Runs.mixed (c := c) (m := fun b => startIn b (chunk 0 b)) fun b => first_step c XX XW XG OUT b
  have h' := Runs.mixed (c := c) (m := fun b => waitOut b (chunk 7 b)) fun b => last_step c XX XW XG OUT b
  have hl := loop_step c XX XW XG OUT arg0 harg0 p hO
  rw [← mix_eight (slotStart c XX XW XG OUT), ← mix_zero _ (slotEnd c XX XW XG OUT)] at hl
  rw [← mix_zero _ (slotAt c XX XW XG OUT 0), ← mix_eight (slotAt c XX XW XG OUT 8)]
  have hloop : Runs c iprop(mix (slotStart c XX XW XG OUT) (slotAt c XX XW XG OUT 0) 8 ∗ ow c) (loopProg arg0 harg0 p)
      iprop(mix (slotAt c XX XW XG OUT 8) (slotEnd c XX XW XG OUT) 4 ∗ ow c) := by
    unfold loopProg
    exact Runs.bind hl (Runs.bind (h' 0) (Runs.bind (h' 1) (Runs.bind (h' 2) (h' 3))))
  exact Runs.bind (h 0) (Runs.bind (h 1) (Runs.bind (h 2) (Runs.bind (h 3) (Runs.bind (h 4) (Runs.bind (h 5) (Runs.bind (h 6)
    (Runs.bind (h 7) (Runs.bind hloop (Runs.bind (h' 4) (Runs.bind (h' 5) (Runs.bind (h' 6) (Runs.bind (h' 7) Runs.done))))))))))))

end Ring

end Cert.Proof.KIdeal

end
-- ==== Proof.Body.lean ====
/-
  The body of the kernel run: its two scores read, the ring run.
-/
module

public import proofs.«01_k».proof.Proof.Ring

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body

variable (c : Dev nD) (XX : Con c F xM) (XW : Con c F woM) (XG : Con c F gM) (OUT : Con c F oM)

/-- The two scores the body reads from their staging buffer. -/
abbrev scoreA (arg0 : Memref sig .tc .smem S1x2 .f32) (g0 : Con c F arg0) : F .f32 :=
  arg0.view.readAt (Elt F) (Rect.unit (s := S1x2) ![0, 0] S1x1.size inb_S1x2_S1x1_0_0).toLoadRect g0 (Shape.Idx.first (by decide))
abbrev scoreB (arg0 : Memref sig .tc .smem S1x2 .f32) (g0 : Con c F arg0) : F .f32 :=
  arg0.view.readAt (Elt F) (Rect.unit (s := S1x2) ![0, 1] S1x1.size inb_S1x2_S1x1_0_1).toLoadRect g0 (Shape.Idx.first (by decide))

/-- The body's two scalar loads, before whatever follows. -/
theorem loads_run (arg0 : Memref sig .tc .smem S1x2 .f32) (g0 : Con c F arg0) (K : F .f32 → F .f32 → KProg F PUnit) (Q : PUnit → sProp 𝕄) :
    iprop(at' c arg0 g0
        ∗ (at' c arg0 g0 -∗ wp Idealize.ShloMosaic.frame (wpE (defs₀ (F := F)) 𝒱₀ (c : Thread nD τ) none) Set.univ (K (scoreA c arg0 g0) (scoreB c arg0 g0)) Q))
      ⊢ wp Idealize.ShloMosaic.frame (wpE (defs₀ (F := F)) 𝒱₀ (c : Thread nD τ) none) Set.univ
          (do
            let a : Elt F .f32 ← smemLoad arg0 (Rect.unit (s := S1x2) ![0, 0] S1x1.size inb_S1x2_S1x1_0_0) numel1_S1x1 rfl
            let b : Elt F .f32 ← smemLoad arg0 (Rect.unit (s := S1x2) ![0, 1] S1x1.size inb_S1x2_S1x1_0_1) numel1_S1x1 rfl
            K a b) Q := by
  iintro ⟨H0, Hk⟩
  sl_exec
  iapply Hk
  iexact H0

/-- The body, run from the ring's start to its end. -/
theorem bodyRun (arg0 : Memref sig .tc .smem S1x2 .f32) (harg0 : arg0.IsWhole) (g0 : Con c F arg0)
    (hO : ∀ i, (oC i).view.read (Elt F) OUT
      = blockOut (probV (scoreA c arg0 g0) (scoreB c arg0 g0)) (k0_pay117 (F := F)) (vX c XX i) (vW c XW i) (vG c XG i))
    (Q : PUnit → sProp 𝕄) :
    iprop((at' c arg0 g0 ∗ bigSep Finset.univ (slotStart c XX XW XG OUT) ∗ ow c)
        ∗ (iprop(at' c arg0 g0 ∗ bigSep Finset.univ (slotEnd c XX XW XG OUT) ∗ ow c) -∗ Q ⟨⟩))
      ⊢ wp Idealize.ShloMosaic.frame (wpE (defs₀ (F := F)) 𝒱₀ (c : Thread nD τ) none) Set.univ (bodyG arg0 harg0) Q := by
  have h := (rest_step c XX XW XG OUT arg0 harg0 _ hO).keep
    iprop(at' c arg0 g0 ∗ (iprop(at' c arg0 g0 ∗ bigSep Finset.univ (slotEnd c XX XW XG OUT) ∗ ow c) -∗ Q ⟨⟩))
  unfold Runs at h
  rw [body_eq]
  unfold bodyProg
  iintro ⟨⟨H0, Hs, HW⟩, Hk⟩
  iapply (loads_run c arg0 g0 _ Q)
  isplitl [H0]; · iexact H0
  iintro H0
  iapply (h.trans (wp_mono _ _ _ fun _ => ?_))
  · iintro ⟨⟨Hs, HW⟩, H0, Hk⟩
    iapply Hk
    isplitl [H0]; · iexact H0
    isplitl [Hs] <;> iassumption
  isplitl [Hs HW]
  · isplitl [Hs] <;> iassumption
  isplitl [H0] <;> iassumption

end Body

end Cert.Proof.KIdeal

end
-- ==== Proof.Blocks.lean ====
/-
  The arrays and the buffers cut into the ring's chunks and slots: what the launch hands over is the ring's start, and the
  ring's end is what the launch takes back.
-/
module

public import proofs.«01_k».proof.Proof.Body
public import proofs.«01_k».proof.Proof.Gen.KernelIdeal.Launch

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Element sets: the 64 chunks of each array, the eight slots of each buffer -/

abbrev setX (i : Fin 64) : Finset S32768x128.Idx := (Rect.unit (s := S32768x128) (xOff i) S512x128.size (xOff_inb i)).set
abbrev setP (i : Fin 64) : Finset S65536x128.Idx := (Rect.unit (s := S65536x128) (pOff i) S1024x128.size (pOff_inb i)).set
abbrev slotX (b : Fin 8) : Finset S8x512x128.Idx := (Rect.unit (s := S8x512x128) (sOff b) S1x512x128.size (sOffX_inb b)).set
abbrev slotP (b : Fin 8) : Finset S8x1024x128.Idx := (Rect.unit (s := S8x1024x128) (sOff b) S1x1024x128.size (sOffP_inb b)).set

theorem mem_setX (i : Fin 64) (y : S32768x128.Idx) : y ∈ setX i ↔ (y 0).val / 512 = i.val := by
  rw [Rect.mem_set_unit]
  have h1 : (y 1).val < 128 := (y 1).isLt
  constructor
  · intro H; have a0 : 512 * i.val ≤ (y 0).val ∧ (y 0).val < 512 * i.val + 512 := H 0; omega
  · intro H a; fin_cases a
    · show 512 * i.val ≤ (y 0).val ∧ (y 0).val < 512 * i.val + 512; omega
    · show 0 ≤ (y 1).val ∧ (y 1).val < 0 + 128; omega
theorem mem_setP (i : Fin 64) (y : S65536x128.Idx) : y ∈ setP i ↔ (y 0).val / 1024 = i.val := by
  rw [Rect.mem_set_unit]
  have h1 : (y 1).val < 128 := (y 1).isLt
  constructor
  · intro H; have a0 : 1024 * i.val ≤ (y 0).val ∧ (y 0).val < 1024 * i.val + 1024 := H 0; omega
  · intro H a; fin_cases a
    · show 1024 * i.val ≤ (y 0).val ∧ (y 0).val < 1024 * i.val + 1024; omega
    · show 0 ≤ (y 1).val ∧ (y 1).val < 0 + 128; omega
theorem mem_slotX (b : Fin 8) (y : S8x512x128.Idx) : y ∈ slotX b ↔ (y 0).val = b.val := by
  rw [Rect.mem_set_unit]
  have h1 : (y 1).val < 512 := (y 1).isLt
  have h2 : (y 2).val < 128 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 512; omega
    · show 0 ≤ (y 2).val ∧ (y 2).val < 0 + 128; omega
theorem mem_slotP (b : Fin 8) (y : S8x1024x128.Idx) : y ∈ slotP b ↔ (y 0).val = b.val := by
  rw [Rect.mem_set_unit]
  have h1 : (y 1).val < 1024 := (y 1).isLt
  have h2 : (y 2).val < 128 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 1024; omega
    · show 0 ≤ (y 2).val ∧ (y 2).val < 0 + 128; omega

/-- Sets told apart by a number, each element having one, are disjoint and cover. -/
theorem parts_disjoint {n : ℕ} {α : Type} [DecidableEq α] (I : Fin n → Finset α) (f : α → ℕ) (h : ∀ i y, y ∈ I i ↔ f y = i.val) :
    ∀ i i' : Fin n, i ≠ i' → Disjoint (I i) (I i') := by
  intro i i' hne; rw [Finset.disjoint_left]; intro y hy hy'; rw [h] at hy hy'; exact hne (Fin.ext (hy.symm.trans hy'))
theorem parts_cover {n : ℕ} {α : Type} [DecidableEq α] [Fintype α] (I : Fin n → Finset α) (f : α → ℕ) (h : ∀ i y, y ∈ I i ↔ f y = i.val) (hf : ∀ y, f y < n) :
    (Finset.univ : Finset (Fin n)).biUnion I = Finset.univ := by
  ext y; simp only [Finset.mem_biUnion, Finset.mem_univ, true_and, iff_true]; exact ⟨⟨f y, hf y⟩, by rw [h]⟩

theorem setX_disjoint : ∀ i i' : Fin 64, i ≠ i' → Disjoint (setX i) (setX i') := parts_disjoint setX (fun y => (y 0).val / 512) mem_setX
theorem setX_cover : (Finset.univ : Finset (Fin 64)).biUnion setX = Finset.univ := parts_cover setX (fun y => (y 0).val / 512) mem_setX (fun y => by have : (y 0).val < 32768 := (y 0).isLt; omega)
theorem setP_disjoint : ∀ i i' : Fin 64, i ≠ i' → Disjoint (setP i) (setP i') := parts_disjoint setP (fun y => (y 0).val / 1024) mem_setP
theorem setP_cover : (Finset.univ : Finset (Fin 64)).biUnion setP = Finset.univ := parts_cover setP (fun y => (y 0).val / 1024) mem_setP (fun y => by have : (y 0).val < 65536 := (y 0).isLt; omega)
theorem slotX_disjoint : ∀ i i' : Fin 8, i ≠ i' → Disjoint (slotX i) (slotX i') := parts_disjoint slotX (fun y => (y 0).val) mem_slotX
theorem slotX_cover : (Finset.univ : Finset (Fin 8)).biUnion slotX = Finset.univ := parts_cover slotX (fun y => (y 0).val) mem_slotX (fun y => (y 0).isLt)
theorem slotP_disjoint : ∀ i i' : Fin 8, i ≠ i' → Disjoint (slotP i) (slotP i') := parts_disjoint slotP (fun y => (y 0).val) mem_slotP
theorem slotP_cover : (Finset.univ : Finset (Fin 8)).biUnion slotP = Finset.univ := parts_cover slotP (fun y => (y 0).val) mem_slotP (fun y => (y 0).isLt)

theorem xC_set (i : Fin 64) : (xC i).view.set = setX i := View.set_slice_whole _ _
theorem woC_set (i : Fin 64) : (woC i).view.set = setP i := View.set_slice_whole _ _
theorem gC_set (i : Fin 64) : (gC i).view.set = setP i := View.set_slice_whole _ _
theorem oC_set (i : Fin 64) : (oC i).view.set = setP i := View.set_slice_whole _ _
theorem xS_set (b : Fin 8) : (xS b).view.set = slotX b := (View.set_reshape _ _).trans (View.set_slice_whole _ _)
theorem woS_set (b : Fin 8) : (woS b).view.set = slotP b := (View.set_reshape _ _).trans (View.set_slice_whole _ _)
theorem gS_set (b : Fin 8) : (gS b).view.set = slotP b := (View.set_reshape _ _).trans (View.set_slice_whole _ _)
theorem oS_set (b : Fin 8) : (oS b).view.set = slotP b := (View.set_reshape _ _).trans (View.set_slice_whole _ _)

/-- The 64 chunks as trips and slots. -/
def chunkEquiv : Fin 8 × Fin 8 ≃ Fin 64 where
  toFun x := chunk x.2.val x.1
  invFun i := (⟨i.val % 8, by omega⟩, ⟨i.val / 8, by omega⟩)
  left_inv x := by
    obtain ⟨b, j⟩ := x
    have hb := b.isLt; have hj := j.isLt
    have e : (chunk j.val b).val = 8 * j.val + b.val := by show (8 * j.val + b.val) % 64 = _; omega
    refine Prod.ext (Fin.ext ?_) (Fin.ext ?_)
    · show (chunk j.val b).val % 8 = b.val; omega
    · show (chunk j.val b).val / 8 = j.val; omega
  right_inv i := by
    refine Fin.ext ?_
    show (8 * (i.val / 8) + i.val % 8) % 64 = i.val
    have := i.isLt; omega

/-- Something for each chunk is something for each slot and trip. -/
theorem chunks_eq (Φ : Fin 64 → sProp 𝕄) :
    bigSep Finset.univ Φ = bigSep Finset.univ fun b : Fin 8 => bigSep Finset.univ fun j : Fin 8 => Φ (chunk j.val b) := by
  rw [bigSep_univ_equiv chunkEquiv, bigSep_univ_prod]
  rfl

/-- Two things for each index are the one for each and the other for each. -/
theorem bigSep_two {I : Type} (s : Finset I) (Φ Ψ : I → sProp 𝕄) : bigSep s (fun i => iprop(Φ i ∗ Ψ i)) = iprop(bigSep s Φ ∗ bigSep s Ψ) := bigSep_sep s Φ Ψ

section Parts

variable (c : Dev nD) (XX : Con c F xM) (XW : Con c F woM) (XG : Con c F gM) (OUT : Con c F oM)

abbrev whole (b : Ref sig .tc) (f : Buf (Elt F) ((c : Thread nD τ).loc b)) : sProp 𝕄 := ((c : Thread nD τ).loc b) ↦{fullShare} f
abbrev some' (b : Ref sig .tc) : sProp 𝕄 := iprop(∃ f : Buf (Elt F) ((c : Thread nD τ).loc b), ((c : Thread nD τ).loc b) ↦{fullShare} f)

/-! ## The arrays whole are their chunks -/

theorem x_eq : whole c main_v0 XX = bigSep Finset.univ fun b : Fin 8 => bigSep Finset.univ fun j : Fin 8 => at' c (xC (chunk j.val b)) XX := by
  rw [← chunks_eq fun i => at' c (xC i) XX, whole, Ring.pointsTo_blocks (ℓ := (c : Thread nD τ).loc main_v0) setX setX_disjoint setX_cover]
  exact bigSep_congr fun i _ => by rw [← xC_set]; rfl
theorem wo_eq : whole c main_v3 XW = bigSep Finset.univ fun b : Fin 8 => bigSep Finset.univ fun j : Fin 8 => at' c (woC (chunk j.val b)) XW := by
  rw [← chunks_eq fun i => at' c (woC i) XW, whole, Ring.pointsTo_blocks (ℓ := (c : Thread nD τ).loc main_v3) setP setP_disjoint setP_cover]
  exact bigSep_congr fun i _ => by rw [← woC_set]; rfl
theorem g_eq : whole c main_v6 XG = bigSep Finset.univ fun b : Fin 8 => bigSep Finset.univ fun j : Fin 8 => at' c (gC (chunk j.val b)) XG := by
  rw [← chunks_eq fun i => at' c (gC i) XG, whole, Ring.pointsTo_blocks (ℓ := (c : Thread nD τ).loc main_v6) setP setP_disjoint setP_cover]
  exact bigSep_congr fun i _ => by rw [← gC_set]; rfl
theorem o_eq : whole c main_v7 OUT = bigSep Finset.univ fun b : Fin 8 => bigSep Finset.univ fun j : Fin 8 => at' c (oC (chunk j.val b)) OUT := by
  rw [← chunks_eq fun i => at' c (oC i) OUT, whole, Ring.pointsTo_blocks (ℓ := (c : Thread nD τ).loc main_v7) setP setP_disjoint setP_cover]
  exact bigSep_congr fun i _ => by rw [← oC_set]; rfl

/-! ## The buffers whole are their slots -/

/-- A buffer at anything is its parts at anything, and back. -/
theorem parts_split {n : ℕ} (ℓ : Loc nD τ sig) (I : Fin n → Finset ℓ.2.ty.shape.Idx) (hd : ∀ i i', i ≠ i' → Disjoint (I i) (I i'))
    (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  have hm (f : Buf (Elt F) ℓ) : (ℓ ↦{fullShare} f : sProp 𝕄) ⊢ bigSep Finset.univ fun b => iprop(∃ f : Buf (Elt F) ℓ, ℓ ↦[I b]{fullShare} f) :=
    (entails_of_eq (Ring.pointsTo_blocks (Ix := Unit) (Name := ℕ) (U := UU nD τ) (Lvl := ℕ) (q := fullShare) (ℓ := ℓ) I hd hc f)).trans
      (bigSep_mono fun b _ => (show (ℓ ↦[I b]{fullShare} f : sProp 𝕄) ⊢ iprop(∃ f : Buf (Elt F) ℓ, ℓ ↦[I b]{fullShare} f) from by iintro H; iexists f; iexact H))
  iintro ⟨%f, H⟩
  iapply (hm f)
  iexact H
theorem parts_join {n : ℕ} (ℓ : Loc nD τ sig) (I : Fin n → Finset ℓ.2.ty.shape.Idx) (hd : ∀ i i', i ≠ i' → Disjoint (I i) (I i'))
    (hc : Finset.univ.biUnion I = Finset.univ) (b₀ : Fin n) :
    (bigSep Finset.univ fun b => iprop(∃ f : Buf (Elt F) ℓ, ℓ ↦[I b]{fullShare} f) : sProp 𝕄) ⊢ iprop(∃ f : Buf (Elt F) ℓ, ℓ ↦{fullShare} f) := by
  have e : (bigSep Finset.univ fun b => iprop(∃ f : Buf (Elt F) ℓ, ℓ ↦[I b]{fullShare} f) : sProp 𝕄)
      = iprop((∃ f : Buf (Elt F) ℓ, ℓ ↦[I b₀]{fullShare} f) ∗ bigSep (Finset.univ.erase b₀) fun b => iprop(∃ f : Buf (Elt F) ℓ, ℓ ↦[I b]{fullShare} f)) := by
    rw [bigSep_univ_split b₀]; rfl
  have hj (f : Buf (Elt F) ℓ) := Ring.pointsTo_blocks_join_exists (Ix := Unit) (Name := ℕ) (U := UU nD τ) (Lvl := ℕ) (q := fullShare) (ℓ := ℓ) I hd hc f
  rw [e] at hj ⊢
  iintro ⟨⟨%f, H⟩, Hr⟩
  iapply (hj f)
  isplitl [H]
  · iexists f; iexact H
  · iexact Hr

/-- The slots of each buffer at anything. -/
theorem xS_some : (bigSep Finset.univ fun b : Fin 8 => iprop(∃ f : Con c F (xS b), at' c (xS b) f) : sProp 𝕄)
    = bigSep Finset.univ fun b : Fin 8 => iprop(∃ f : Buf (Elt F) ((c : Thread nD τ).loc cc0_scratch0), ((c : Thread nD τ).loc cc0_scratch0) ↦[slotX b]{fullShare} f) :=
  bigSep_congr fun b _ => by rw [← xS_set]; rfl
theorem woS_some : (bigSep Finset.univ fun b : Fin 8 => iprop(∃ f : Con c F (woS b), at' c (woS b) f) : sProp 𝕄)
    = bigSep Finset.univ fun b : Fin 8 => iprop(∃ f : Buf (Elt F) ((c : Thread nD τ).loc cc0_scratch1), ((c : Thread nD τ).loc cc0_scratch1) ↦[slotP b]{fullShare} f) :=
  bigSep_congr fun b _ => by rw [← woS_set]; rfl
theorem gS_some : (bigSep Finset.univ fun b : Fin 8 => iprop(∃ f : Con c F (gS b), at' c (gS b) f) : sProp 𝕄)
    = bigSep Finset.univ fun b : Fin 8 => iprop(∃ f : Buf (Elt F) ((c : Thread nD τ).loc cc0_scratch2), ((c : Thread nD τ).loc cc0_scratch2) ↦[slotP b]{fullShare} f) :=
  bigSep_congr fun b _ => by rw [← gS_set]; rfl
theorem oS_some : (bigSep Finset.univ fun b : Fin 8 => iprop(∃ f : Con c F (oS b), at' c (oS b) f) : sProp 𝕄)
    = bigSep Finset.univ fun b : Fin 8 => iprop(∃ f : Buf (Elt F) ((c : Thread nD τ).loc cc0_scratch3), ((c : Thread nD τ).loc cc0_scratch3) ↦[slotP b]{fullShare} f) :=
  bigSep_congr fun b _ => by rw [← oS_set]; rfl

/-! ## The kernel's own semaphores -/

/-- The kernel's own cells: four arrays of eight. -/
def osem (k : Fin 4 × Fin 8) : SemLoc sig :=
  match k.1 with
  | 0 => SemLoc.dma (xCell k.2).sem
  | 1 => SemLoc.dma (woCell k.2).sem
  | 2 => SemLoc.dma (gCell k.2).sem
  | 3 => SemLoc.dma (oCell k.2).sem

theorem ownSemFacts : Pipeline.OwnSemFacts spec0 osem := by decide

/-- At zero, array by array. -/
theorem ownSems0_eq : (Pipeline.ownSems0 (Ix := Unit) (Name := ℕ) (U := UU nD τ) (Lvl := ℕ) (Val := Elt F) (τ := τ) osem c : sProp 𝕄)
    = iprop((bigSep Finset.univ fun b : Fin 8 => cellP c (xCell b)) ∗ (bigSep Finset.univ fun b : Fin 8 => cellP c (woCell b))
      ∗ (bigSep Finset.univ fun b : Fin 8 => cellP c (gCell b)) ∗ (bigSep Finset.univ fun b : Fin 8 => cellP c (oCell b))) := by
  unfold Pipeline.ownSems0
  rw [bigSep_univ_prod, bigSep_univ_eq_bigSepL [(0 : Fin 4), 1, 2, 3] (by decide) (by decide)]
  rfl

/-! ## The ring's start and end -/

/-- The output chunks at anything; at the result. -/
theorem outHome_zero (b j : Fin 8) : outHome c OUT 0 b j = iprop(∃ f : Con c F (oC (chunk j.val b)), at' c (oC (chunk j.val b)) f) := if_neg (Nat.not_lt_zero _)
theorem outHome_eight (b j : Fin 8) : outHome c OUT 8 b j = at' c (oC (chunk j.val b)) OUT := if_pos j.isLt

/-- The kernel's scratch at anything. -/
abbrev scratch : sProp 𝕄 := iprop(some' c cc0_scratch0 ∗ some' c cc0_scratch1 ∗ some' c cc0_scratch2 ∗ some' c cc0_scratch3)

/-- Slot `b`'s chunks of each array. -/
abbrev hX (b : Fin 8) : sProp 𝕄 := bigSep Finset.univ fun j : Fin 8 => at' c (xC (chunk j.val b)) XX
abbrev hW (b : Fin 8) : sProp 𝕄 := bigSep Finset.univ fun j : Fin 8 => at' c (woC (chunk j.val b)) XW
abbrev hG (b : Fin 8) : sProp 𝕄 := bigSep Finset.univ fun j : Fin 8 => at' c (gC (chunk j.val b)) XG
theorem homes_eq (b : Fin 8) : homes c XX XW XG b = iprop(hX c XX b ∗ hW c XW b ∗ hG c XG b) := by
  unfold homes inHome
  exact (bigSep_two Finset.univ (fun j : Fin 8 => at' c (xC (chunk j.val b)) XX) _).trans
    (congrArg (fun P => iprop(hX c XX b ∗ P)) (bigSep_two Finset.univ (fun j : Fin 8 => at' c (woC (chunk j.val b)) XW) _))

/-- Twelve families over the slots, grouped as a slot's start and end group theirs. -/
theorem families_eq (A B C D E G H I J K L M : Fin 8 → sProp 𝕄) :
    (bigSep Finset.univ fun b => iprop(((A b ∗ B b ∗ C b ∗ D b ∗ E b ∗ G b) ∗ (H b ∗ I b ∗ J b)) ∗ ((K b ∗ L b) ∗ M b)))
      = iprop(((bigSep Finset.univ A ∗ bigSep Finset.univ B ∗ bigSep Finset.univ C ∗ bigSep Finset.univ D ∗ bigSep Finset.univ E ∗ bigSep Finset.univ G)
        ∗ (bigSep Finset.univ H ∗ bigSep Finset.univ I ∗ bigSep Finset.univ J)) ∗ ((bigSep Finset.univ K ∗ bigSep Finset.univ L) ∗ bigSep Finset.univ M)) := by
  simp only [bigSep_two]

/-- The slots' starts and ends, family by family. -/
theorem start_eq : (bigSep Finset.univ (slotStart c XX XW XG OUT) : sProp 𝕄)
    = iprop((((bigSep Finset.univ fun b : Fin 8 => iprop(∃ f : Con c F (xS b), at' c (xS b) f))
          ∗ (bigSep Finset.univ fun b : Fin 8 => iprop(∃ f : Con c F (woS b), at' c (woS b) f))
          ∗ (bigSep Finset.univ fun b : Fin 8 => iprop(∃ f : Con c F (gS b), at' c (gS b) f))
          ∗ (bigSep Finset.univ fun b : Fin 8 => cellP c (xCell b)) ∗ (bigSep Finset.univ fun b : Fin 8 => cellP c (woCell b))
          ∗ (bigSep Finset.univ fun b : Fin 8 => cellP c (gCell b)))
        ∗ (bigSep Finset.univ (hX c XX) ∗ bigSep Finset.univ (hW c XW) ∗ bigSep Finset.univ (hG c XG)))
      ∗ (((bigSep Finset.univ fun b : Fin 8 => iprop(∃ f : Con c F (oS b), at' c (oS b) f)) ∗ (bigSep Finset.univ fun b : Fin 8 => cellP c (oCell b)))
        ∗ bigSep Finset.univ fun b : Fin 8 => bigSep Finset.univ (outHome c OUT 0 b))) := by
  rw [← families_eq]
  exact bigSep_congr fun b _ => by unfold slotStart; rw [homes_eq]; rfl
theorem end_eq : (bigSep Finset.univ (slotEnd c XX XW XG OUT) : sProp 𝕄)
    = iprop((((bigSep Finset.univ fun b : Fin 8 => iprop(∃ f : Con c F (xS b), at' c (xS b) f))
          ∗ (bigSep Finset.univ fun b : Fin 8 => iprop(∃ f : Con c F (woS b), at' c (woS b) f))
          ∗ (bigSep Finset.univ fun b : Fin 8 => iprop(∃ f : Con c F (gS b), at' c (gS b) f))
          ∗ (bigSep Finset.univ fun b : Fin 8 => cellP c (xCell b)) ∗ (bigSep Finset.univ fun b : Fin 8 => cellP c (woCell b))
          ∗ (bigSep Finset.univ fun b : Fin 8 => cellP c (gCell b)))
        ∗ (bigSep Finset.univ (hX c XX) ∗ bigSep Finset.univ (hW c XW) ∗ bigSep Finset.univ (hG c XG)))
      ∗ (((bigSep Finset.univ fun b : Fin 8 => iprop(∃ f : Con c F (oS b), at' c (oS b) f)) ∗ (bigSep Finset.univ fun b : Fin 8 => cellP c (oCell b)))
        ∗ bigSep Finset.univ fun b : Fin 8 => bigSep Finset.univ (outHome c OUT 8 b))) := by
  rw [← families_eq]
  exact bigSep_congr fun b _ => by unfold slotEnd; rw [homes_eq]; rfl

/-- The result's array at anything is its chunks before the first trip; its chunks after the last are the array at the result. -/
theorem out_start : some' c main_v7 ⊢ (bigSep Finset.univ fun b : Fin 8 => bigSep Finset.univ (outHome c OUT 0 b) : sProp 𝕄) := by
  have hm (f : Con c F oM) : whole c main_v7 f ⊢ (bigSep Finset.univ fun b : Fin 8 => bigSep Finset.univ (outHome c OUT 0 b) : sProp 𝕄) := by
    rw [o_eq c f]
    exact bigSep_mono fun b _ => bigSep_mono fun j _ => by
      rw [outHome_zero]
      exact (show at' c (oC (chunk j.val b)) f ⊢ (iprop(∃ f : Con c F (oC (chunk j.val b)), at' c (oC (chunk j.val b)) f) : sProp 𝕄) from by
        iintro H; iexists f; iexact H)
  iintro ⟨%f, H⟩
  iapply (hm f)
  iexact H
theorem out_end : (bigSep Finset.univ fun b : Fin 8 => bigSep Finset.univ (outHome c OUT 8 b) : sProp 𝕄) ⊢ whole c main_v7 OUT := by
  rw [o_eq c OUT]
  exact bigSep_mono fun b _ => bigSep_mono fun j _ => by
    exact entails_of_eq (outHome_eight c OUT b j)

/-- What the launch hands over is every slot's start. -/
theorem start_of :
    iprop(whole c main_v0 XX ∗ whole c main_v3 XW ∗ whole c main_v6 XG ∗ some' c main_v7 ∗ Pipeline.ownSems0 osem c ∗ scratch c)
      ⊢ (bigSep Finset.univ (slotStart c XX XW XG OUT) : sProp 𝕄) := by
  rw [start_eq, ownSems0_eq, x_eq, wo_eq, g_eq, xS_some, woS_some, gS_some, oS_some]
  iintro ⟨Hx, Hw, Hg, Ho, ⟨Cx, Cw, Cg, Co⟩, Sx, Sw, Sg, So⟩
  isplitl [Hx Hw Hg Cx Cw Cg Sx Sw Sg]
  · isplitl [Cx Cw Cg Sx Sw Sg]
    · isplitl [Sx]; · iapply (parts_split ((c : Thread nD τ).loc cc0_scratch0) slotX slotX_disjoint slotX_cover); iexact Sx
      isplitl [Sw]; · iapply (parts_split ((c : Thread nD τ).loc cc0_scratch1) slotP slotP_disjoint slotP_cover); iexact Sw
      isplitl [Sg]; · iapply (parts_split ((c : Thread nD τ).loc cc0_scratch2) slotP slotP_disjoint slotP_cover); iexact Sg
      isplitl [Cx]; · iexact Cx
      isplitl [Cw] <;> iassumption
    · isplitl [Hx]; · iexact Hx
      isplitl [Hw] <;> iassumption
  isplitr [Ho]
  · isplitl [So]; · iapply (parts_split ((c : Thread nD τ).loc cc0_scratch3) slotP slotP_disjoint slotP_cover); iexact So
    iexact Co
  · iapply (out_start c OUT); iexact Ho

/-- Every slot's end is what the launch takes back, the result in its array. -/
theorem end_of :
    (bigSep Finset.univ (slotEnd c XX XW XG OUT) : sProp 𝕄)
      ⊢ iprop(whole c main_v0 XX ∗ whole c main_v3 XW ∗ whole c main_v6 XG ∗ whole c main_v7 OUT ∗ Pipeline.ownSems0 osem c ∗ scratch c) := by
  rw [end_eq, ownSems0_eq, x_eq, wo_eq, g_eq, xS_some, woS_some, gS_some, oS_some]
  iintro ⟨⟨⟨Sx, Sw, Sg, Cx, Cw, Cg⟩, Hx, Hw, Hg⟩, ⟨So, Co⟩, Ho⟩
  isplitl [Hx]; · iexact Hx
  isplitl [Hw]; · iexact Hw
  isplitl [Hg]; · iexact Hg
  isplitl [Ho]; · iapply (out_end c OUT); iexact Ho
  isplitl [Cx Cw Cg Co]
  · isplitl [Cx]; · iexact Cx
    isplitl [Cw]; · iexact Cw
    isplitl [Cg] <;> iassumption
  isplitl [Sx]; · iapply (parts_join ((c : Thread nD τ).loc cc0_scratch0) slotX slotX_disjoint slotX_cover 0); iexact Sx
  isplitl [Sw]; · iapply (parts_join ((c : Thread nD τ).loc cc0_scratch1) slotP slotP_disjoint slotP_cover 0); iexact Sw
  isplitl [Sg]; · iapply (parts_join ((c : Thread nD τ).loc cc0_scratch2) slotP slotP_disjoint slotP_cover 0); iexact Sg
  iapply (parts_join ((c : Thread nD τ).loc cc0_scratch3) slotP slotP_disjoint slotP_cover 0); iexact So

end Parts

end Cert.Proof.KIdeal

end
-- ==== Proof.Launch.lean ====
/-
  The launch: the host operations before the kernel, the kernel's region, the host operations after it; and what every
  buffer holds at the end.
-/
module

public import proofs.«01_k».proof.Proof.Blocks
public import proofs.«01_k».proof.Proof.Gen.KernelIdeal.Points
public import Idealize.ShloMosaic.Lib.Pipeline.Regions
public import Idealize.ShloMosaic.Lib.Pipeline.FrameTail

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Result

variable (c : Dev nD) (XX : Con c F xM) (XW : Con c F woM) (XG : Con c F gM)

/-- The result in rows: at each row and lane what its chunk's computation gives there. -/
def outOf (p : FVec F S8x128 .f32) : Con c F oM := fun (q : S65536x128.Idx) =>
  let i : Fin 64 := ⟨(q 0).val / 1024, by have : (q 0).val < 65536 := (q 0).isLt; omega⟩
  blockOut p (k0_pay117 (F := F)) (vX c XX i) (vW c XW i) (vG c XG i)
    (ValueIdx.ix2 (⟨(q 0).val % 1024, Nat.mod_lt _ (by omega)⟩ : Fin 1024) (⟨(q 1).val, (q 1).isLt⟩ : Fin 128))

theorem outOf_chunk (p : FVec F S8x128 .f32) (i : Fin 64) :
    (oC i).view.read (Elt F) (outOf c XX XW XG p) = blockOut p (k0_pay117 (F := F)) (vX c XX i) (vW c XW i) (vG c XG i) := by
  have key (y : S65536x128.Idx) (q : S1024x128.Idx) (h0 : (y 0).val = 1024 * i.val + 1 * (q 0).val) (h1 : (y 1).val = 0 + 1 * (q 1).val) :
      outOf c XX XW XG p y = blockOut p (k0_pay117 (F := F)) (vX c XX i) (vW c XW i) (vG c XG i) q := by
    have hq : (q 0).val < 1024 := (q 0).isLt
    have e1 : (⟨(y 0).val / 1024, by have : (y 0).val < 65536 := (y 0).isLt; omega⟩ : Fin 64) = i := Fin.ext (by show (y 0).val / 1024 = i.val; omega)
    have e2 : ValueIdx.ix2 (⟨(y 0).val % 1024, Nat.mod_lt _ (by omega)⟩ : Fin 1024) (⟨(y 1).val, (y 1).isLt⟩ : Fin 128) = q := by
      refine Eq.trans ?_ (ValueIdx.eq_ix2 q).symm
      refine congrArg₂ ValueIdx.ix2 (Fin.ext ?_) (Fin.ext ?_)
      · show (y 0).val % 1024 = (q 0).val; omega
      · show (y 1).val = (q 1).val; omega
    unfold outOf
    dsimp only
    rw [e1, e2]
  funext q
  exact key _ q rfl rfl

end Result

variable (m : (ℓ : Loc nD τ sig) → Buf (Elt F) ℓ) (ρ : Dev nD → PrngReg)

/-! ## The buffers at launch, at the kernel's start, at its end -/

/-- The unscoped references. -/
abbrev ucs : Finset (DevRef τ sig) := Pipeline.ucRefs τ sig

/-- At launch. -/
abbrev V₀ (c : Dev nD) : Valuation τ sig (Elt F) := fun b => (s₀ m ρ).mem ((c : Dev nD), b)
/-- The host operations before the kernel run. -/
def V₁ (c : Dev nD) : Valuation τ sig (Elt F) := StableHlo.after hostOps0 (V₀ m ρ c)

/-- The kernel's inputs: the draws, the Lambert draws, the base draws. -/
abbrev inX (c : Dev nD) : Con c F xM := V₁ m ρ c (Proc.devRef .tc main_v0)
abbrev inW (c : Dev nD) : Con c F woM := V₁ m ρ c (Proc.devRef .tc main_v3)
abbrev inG (c : Dev nD) : Con c F gM := V₁ m ρ c (Proc.devRef .tc main_v6)
/-- The two scores as the window's block. -/
def iblk (c : Dev nD) : (cfg0.win 0).block.Idx → Elt F (cfg0.win 0).elt :=
  ((cfg0.win 0).blk t0_0).view.read (Elt F) (V₁ m ρ c (Proc.devRef .tc (Pipeline.arrRef spec0 0)))
abbrev st0 : Memref sig .tc .smem S1x2 .f32 := stage0_0 0
abbrev hst0 : st0.IsWhole := hstage0_0 0
/-- The mixing probability on the block of eight rows the kernel computes it on. -/
def prob (c : Dev nD) : FVec F S8x128 .f32 :=
  probV (scoreA c st0 (st0.view.rep (iblk m ρ c))) (scoreB c st0 (st0.view.rep (iblk m ρ c)))
/-- The kernel's result. -/
def outR (c : Dev nD) : Con c F oM := outOf c (inX m ρ c) (inW m ρ c) (inG m ρ c) (prob m ρ c)

/-- At the kernel's end: its result in its array, every other buffer as it was. -/
def V₂ (c : Dev nD) : Valuation τ sig (Elt F) := Function.update (V₁ m ρ c) (Proc.devRef .tc main_v7) (outR m ρ c)

theorem V₂_out (c : Dev nD) : V₂ m ρ c (Proc.devRef .tc main_v7) = outR m ρ c := Function.update_self _ _ _
theorem V₂_ne (c : Dev nD) (b : Ref sig .tc) (h : b ≠ main_v7) : V₂ m ρ c (Proc.devRef .tc b) = V₁ m ρ c (Proc.devRef .tc b) :=
  Function.update_of_ne (StableHlo.devRef_ne_of_ne h) _ _

/-! ## The kernel's run as the pipeline asks for it -/

abbrev startAll (c : Dev nD) : sProp 𝕄 := bigSep Finset.univ (slotStart c (inX m ρ c) (inW m ρ c) (inG m ρ c) (outR m ρ c))
abbrev endAll (c : Dev nD) : sProp 𝕄 := bigSep Finset.univ (slotEnd c (inX m ρ c) (inW m ρ c) (inG m ρ c) (outR m ρ c))

/-- Before the one point the ring's start, after it the ring's end. -/
def Φc (c : Dev nD) (t : Fin (cfg0.N + 1)) : sProp 𝕄 := if t.val = 0 then startAll m ρ c else endAll m ρ c

def dats (_ : Fin 1) (c : Dev nD) : Dat τ (Elt F) Unit ℕ (UU nD τ) ℕ cfg0 c where
  A w := V₁ m ρ c (Proc.devRef .tc (Pipeline.arrRef spec0 w))
  after w _ := match w with | ⟨0, _⟩ => iblk m ρ c
  Φ t := Φc m ρ c t
  q _ := fullShare
  owed _ := 0

theorem A_eq (c : Dev nD) (w : Fin cfg0.W) : (dats m ρ 0 c).A w = V₁ m ρ c (Proc.devRef .tc (Pipeline.arrRef spec0 w)) := by
  dsimp only [dats]
theorem Φ_first (c : Dev nD) : (dats m ρ 0 c).Φ 0 = startAll m ρ c := by
  show Φc m ρ c 0 = _
  unfold Φc; exact if_pos rfl
theorem Φ_last (c : Dev nD) : (dats m ρ 0 c).Φ (Fin.last cfg0.N) = endAll m ρ c := by
  show Φc m ρ c (Fin.last cfg0.N) = _
  unfold Φc; exact if_neg (by decide)

theorem before_in (c : Dev nD) (d : (cfg0.win 0).block.Idx → Elt F (cfg0.win 0).elt) : (dats m ρ 0 c).before 0 t0_0 d = iblk m ρ c := by
  unfold Dat.before; rw [if_pos (fetch0_0 t0_0)]; unfold Dat.fetched Dat.blockOf iblk; dsimp only [dats]; rfl
theorem after_in (c : Dev nD) : (dats m ρ 0 c).after 0 t0_0 = iblk m ρ c := by dsimp only [dats]

theorem defs_tc : (defs₀ (F := F)) .tc cfg0.body = fun a => bodyG (win0_0.stage (a.2 0)) (hstage0_0 0) := rfl
theorem prog_eq : (defs₀ (F := F)) .tc cfg0.body (cfg0.bodyArgs t0_0 (cfg0.slots t0_0)) = bodyG st0 hst0 := (congrFun defs_tc _).trans rfl

set_option backward.isDefEq.respectTransparency.types false in
/-- The body, from the staged scores and the ring's start, ends at the ring's end. -/
theorem body_obligation (c : Dev nD) : BodyObligation (dats (F := F) m ρ 0 c) (defs₀ (F := F)) 𝒱₀ () Set.univ := fun t => by
  obtain rfl := fin_N0 t
  rw [bigSep_W0, bigSep_W0]
  dsimp only
  simp only [before_in, after_in]
  rw [show (dats m ρ 0 c).Φ t0_0.castSucc = startAll m ρ c from Φ_first m ρ c, show (dats m ρ 0 c).Φ t0_0.succ = endAll m ρ c from Φ_last m ρ c]
  unfold Dat.owesAt Pipeline.owesWithin
  rw [show (dats m ρ 0 c).owed t0_0.castSucc = 0 from rfl, show (dats m ρ 0 c).owed t0_0.succ = 0 from rfl]
  unfold owns
  iintro ⟨Hs, ⟨%W, -, HW⟩, ⟨%d0, %g0, %hg0, Hng⟩⟩
  ihave Hng' := (pointsTo_rep_entails (c : Thread nD τ) st0 g0 fullShare) $$ Hng
  rw [hg0]
  sl_rw [prog_eq]
  iapply (bodyRun c (inX m ρ c) (inW m ρ c) (inG m ρ c) (outR m ρ c) st0 hst0 _ (fun i => outOf_chunk c _ _ _ (prob m ρ c) i))
  isplitl [Hng' Hs HW]
  · isplitl [Hng']; · iexact Hng'
    isplitl [Hs]; · iexact Hs
    iexists W; iexact HW
  · iintro ⟨Hng, Hs, ⟨%W', HW⟩⟩
    isplitl [Hs]; · iexact Hs
    isplitl [HW]
    · iexists W'; isplitr; · ipureintro; exact fun _ _ => Or.inl trivial
      iexact HW
    iexists _; isplitr; · ipureintro; exact View.read_rep _ _
    iexact Hng

/-! ## The segments -/

def u₀ : UU nD τ := (initOf (Pipeline.cells cfgs cellOf_inj) (Pipeline.launchToks cfgs cellOf_inj), 1)
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- The host operations before the kernel; after it. -/
def seg0 : Pipeline.HostSeg (Name := ℕ) (U := UU nD τ) (pcfgs (F := F)) defs₀ 𝒱₀ L lv :=
  Pipeline.HostSeg.ofOps _ _ _ _ _ ucs hostOps0 (fun op h => Pipeline.sub_ucRefs op ((List.forall_iff_forall_mem.mp hostOps0_sub) op h))
    (by intro _ h; (repeat (cases h with | head => rfl | tail _ h => ?_)); exact nomatch h) (V₀ m ρ) R
def seg1 : Pipeline.HostSeg (Name := ℕ) (U := UU nD τ) (pcfgs (F := F)) defs₀ 𝒱₀ L lv :=
  Pipeline.HostSeg.ofOps _ _ _ _ _ ucs hostOps1 (fun op h => Pipeline.sub_ucRefs op ((List.forall_iff_forall_mem.mp hostOps1_sub) op h))
    (by intro _ h; (repeat (cases h with | head => rfl | tail _ h => ?_)); exact nomatch h) (V₂ m ρ) R

/-- The buffers the kernel does not touch, at a valuation. -/
abbrev untouched (c : Dev nD) (V : (b : Ref sig .tc) → Buf (Elt F) ((c : Thread nD τ).loc b)) : sProp 𝕄 :=
  iprop(whole c main_arg1 (V main_arg1) ∗ whole c main_arg2 (V main_arg2) ∗ whole c main_arg3 (V main_arg3)
    ∗ whole c main_v1 (V main_v1) ∗ whole c main_v2 (V main_v2) ∗ whole c main_v4 (V main_v4) ∗ whole c main_v5 (V main_v5)
    ∗ whole c main_v8 (V main_v8) ∗ whole c main_v9 (V main_v9) ∗ whole c main_v10 (V main_v10))

set_option backward.isDefEq.respectTransparency.types false in
/-- The region: the ring's start out of the buffers at its entry, the ring's end back into them at its exit. -/
def reg0 : Pipeline.RegionSeg (pcfgs (F := F)) adm (dats m ρ) () defs₀ 𝒱₀ L lv 0 where
  win := launch0.win.to₀
  block_pos := launch0.block_pos
  stage_whole := launch0.stage_whole
  K := Fin 4 × Fin 8
  osem := osem
  ho := ownSemFacts
  hbody c := (body_obligation m ρ c).loose
  hwaits := Pipeline.hwaits_of_owed_zero _ _ _ _ L lv 0 fun _ _ => rfl
  pre c := iprop(StableHlo.held (c : Thread nD τ) ucs (V₁ m ρ c) ∗ R c)
  post c := iprop(StableHlo.held (c : Thread nD τ) ucs (V₂ m ρ c) ∗ R c)
  X c := iprop(whole c main_v0 (inX m ρ c) ∗ whole c main_v3 (inW m ρ c) ∗ whole c main_v6 (inG m ρ c) ∗ some' c main_v7 ∗ Pipeline.ownSems0 osem c)
  Y c := iprop(whole c main_v0 (inX m ρ c) ∗ whole c main_v3 (inW m ρ c) ∗ whole c main_v6 (inG m ρ c) ∗ whole c main_v7 (outR m ρ c))
  Z c := untouched c (fun b => V₁ m ρ c (Proc.devRef .tc b))
  hentry c := by
    rw [show StableHlo.held (c : Thread nD τ) ucs (V₁ m ρ c) = unscopedBufs c (fun b => V₁ m ρ c (Proc.devRef .tc b)) from (Pipeline.unscopedBufs_held c _).symm]
    have hsplit := (Pipeline.arrays_of_unscopedBufs (pcfgs (F := F)) adm (dats m ρ) launch0.win launch0.arr_whole c
      ((dats m ρ 0 c).share_full fun _ => rfl) (fun b => V₁ m ρ c (Proc.devRef .tc b)) (A_eq m ρ c)).trans
        (sep_mono .rfl (Entails.of_eq (unscopedRest0_eq c (fun b => V₁ m ρ c (Proc.devRef .tc b)))))
    iintro ⟨⟨Hub, HO⟩, Hos, -⟩
    ihave H := hsplit $$ Hub
    icases H with ⟨Ha, H1, H2, H3, Hv0, Hv1, Hv2, Hv3, Hv4, Hv5, Hv6, Hv7, Hv8, Hv9, Hv10⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hv0 Hv3 Hv6 Hv7 Hos]
    · isplitl [Hv0]; · iexact Hv0
      isplitl [Hv3]; · iexact Hv3
      isplitl [Hv6]; · iexact Hv6
      isplitl [Hv7]; · iexists _; iexact Hv7
      iexact Hos
    unfold untouched whole
    isplitl [H1]; · iexact H1
    isplitl [H2]; · iexact H2
    isplitl [H3]; · iexact H3
    isplitl [Hv1]; · iexact Hv1
    isplitl [Hv2]; · iexact Hv2
    isplitl [Hv4]; · iexact Hv4
    isplitl [Hv5]; · iexact Hv5
    isplitl [Hv8]; · iexact Hv8
    isplitl [Hv9]; · iexact Hv9
    iexact Hv10
  hin c := by
    rw [Φ_first, scopedRest0_eq]
    iintro ⟨⟨Hv0, Hv3, Hv6, Hv7, Hos⟩, -, Hr⟩
    iapply (start_of c (inX m ρ c) (inW m ρ c) (inG m ρ c) (outR m ρ c))
    isplitl [Hv0]; · iexact Hv0
    isplitl [Hv3]; · iexact Hv3
    isplitl [Hv6]; · iexact Hv6
    isplitl [Hv7]; · iexact Hv7
    isplitl [Hos]; · iexact Hos
    iexact Hr
  hout c := by
    rw [Φ_last, scopedRest0_eq]
    iintro H
    ihave H2 := (end_of c (inX m ρ c) (inW m ρ c) (inG m ρ c) (outR m ρ c)) $$ H
    icases H2 with ⟨Hv0, Hv3, Hv6, Hv7, Hos, Hr⟩
    isplitl [Hv0 Hv3 Hv6 Hv7]
    · isplitl [Hv0]; · iexact Hv0
      isplitl [Hv3]; · iexact Hv3
      isplitl [Hv6] <;> iassumption
    isplitl [Hos]; · iexact Hos
    iexact Hr
  hexit c := by
    have hjoin := Pipeline.unscopedBufs_of_arrays (p := 0) (pcfgs (F := F)) adm (Ix := Unit) (Name := ℕ) (U := UU nD τ) (Lvl := ℕ)
      launch0.win launch0.arr_whole c (dats m ρ) ((dats m ρ 0 c).share_full fun _ => rfl)
      (fun b => V₂ m ρ c (Proc.devRef .tc b)) (fun b => V₂ m ρ c (Proc.devRef .tc b)) ((dats m ρ 0 c).arrAt · cfg0.N)
      (fun w => by
        obtain rfl : w = 0 := Subsingleton.elim w 0
        exact ((dats m ρ 0 c).arrAt_in 0 rfl _).trans (V₂_ne m ρ c main_arg0 (by decide)).symm)
      (fun b _ => rfl)
    rw [show StableHlo.held (c : Thread nD τ) ucs (V₂ m ρ c) = unscopedBufs c (fun b => V₂ m ρ c (Proc.devRef .tc b)) from (Pipeline.unscopedBufs_held c _).symm]
    iintro ⟨Ha, HO, ⟨Hv0, Hv3, Hv6, Hv7⟩, HZ⟩
    imodintro
    isplitr [HO]
    · iapply hjoin
      isplitl [Ha]; · iexact Ha
      rw [unscopedRest0_eq]
      simp only [V₂_out, V₂_ne m ρ c _ (show main_arg1 ≠ main_v7 by decide), V₂_ne m ρ c _ (show main_arg2 ≠ main_v7 by decide), V₂_ne m ρ c _ (show main_arg3 ≠ main_v7 by decide),
        V₂_ne m ρ c _ (show main_v0 ≠ main_v7 by decide), V₂_ne m ρ c _ (show main_v1 ≠ main_v7 by decide), V₂_ne m ρ c _ (show main_v2 ≠ main_v7 by decide),
        V₂_ne m ρ c _ (show main_v3 ≠ main_v7 by decide), V₂_ne m ρ c _ (show main_v4 ≠ main_v7 by decide), V₂_ne m ρ c _ (show main_v5 ≠ main_v7 by decide),
        V₂_ne m ρ c _ (show main_v6 ≠ main_v7 by decide), V₂_ne m ρ c _ (show main_v8 ≠ main_v7 by decide), V₂_ne m ρ c _ (show main_v9 ≠ main_v7 by decide),
        V₂_ne m ρ c _ (show main_v10 ≠ main_v7 by decide)]
      unfold untouched whole
      icases HZ with ⟨H1, H2, H3, Hv1, Hv2, Hv4, Hv5, Hv8, Hv9, Hv10⟩
      isplitl [H1]; · iexact H1
      isplitl [H2]; · iexact H2
      isplitl [H3]; · iexact H3
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      isplitl [Hv8]; · iexact Hv8
      isplitl [Hv9]; · iexact Hv9
      iexact Hv10
    · unfold Pipeline.Dat.owesAt Pipeline.owesWithin
      icases HO with ⟨%W, -, HO⟩; iexists W; iexact HO

abbrev segs : List (Pipeline.Seg (pcfgs (F := F)) adm (dats m ρ) () defs₀ 𝒱₀ L lv) := [.host (seg0 m ρ), .region (reg0 m ρ), .host (seg1 m ρ)]

/-- What every unscoped buffer holds at the end. -/
abbrev Vₙ (c : Dev nD) : Valuation τ sig (Elt F) := StableHlo.after hostOps1 (V₂ m ρ c)

set_option backward.isDefEq.respectTransparency.types false in
/-- Every execution of the program terminates with every unscoped buffer at `Vₙ` and every semaphore at zero. -/
theorem run_main : θ_run defs (onTc (τ := τ) (main (F := F))) (s₀ m ρ)
    (fun r => (∀ (c : Dev nD) (b : Ref sig .tc), b.isScoped = false → r.2.mem ((c : Thread nD τ).loc b) = Vₙ m ρ c (Proc.devRef .tc b)) ∧ r.2.sem = fun _ => 0) :=
  Pipeline.θ_run_regions_kit_sems (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucs (V₀ m ρ c) ∗ R c))
    (Tₙ := fun c => StableHlo.held (c : Thread nD τ) ucs (Vₙ m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucs (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ ucs, s.mem ((c : Thread nD τ).1, b) = Vₙ m ρ c b)
    (hfin := fun c s' => by
      unfold StableHlo.held
      iintro ⟨Hh, HSI⟩
      ihave Hr := (pointsTo_read_all ucs (fun b => ((c : Thread nD τ).1, b)) (Vₙ m ρ c) s') $$ [Hh HSI]
      · isplitl [Hh] <;> iassumption
      imodintro; iexact Hr)
    (hQ := fun _ h hz => ⟨fun c b hb => h c (Proc.devRef .tc b) (Pipeline.devRef_mem_ucRefs hb), funext fun g => hz g (.inr (by revert g; decide))⟩)

end Cert.Proof.KIdeal

end
-- ==== Proof.End.lean ====
/-
  What the arguments and the result hold at the end of the program.
-/
module

public import proofs.«01_k».proof.Proof.Launch

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers the host operations before the kernel do not write, and those after it. -/
theorem not_written0 (b : Ref sig .tc) (hb : b ≠ main_v0 ∧ b ≠ main_v1 ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.reshape_writes, Finset.mem_singleton] <;>
    exact StableHlo.devRef_ne_of_ne ‹_›
theorem not_written1 (b : Ref sig .tc) (hb : b ≠ main_v8 ∧ b ≠ main_v9 ∧ b ≠ main_v10) :
    ∀ op ∈ (hostOps1 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- A buffer no operation writes and the kernel leaves alone ends as launched. -/
theorem kept (c : Dev nD) (b : Ref sig .tc) (h0 : b ≠ main_v0 ∧ b ≠ main_v1 ∧ b ≠ main_v2 ∧ b ≠ main_v3 ∧ b ≠ main_v4 ∧ b ≠ main_v5 ∧ b ≠ main_v6)
    (h1 : b ≠ main_v8 ∧ b ≠ main_v9 ∧ b ≠ main_v10) (h7 : b ≠ main_v7) : Vₙ m ρ c (Proc.devRef .tc b) = m ((c : Thread nD τ).loc b) :=
  (StableHlo.after_of_forall_not_mem hostOps1 _ (not_written1 b h1)).trans
    ((V₂_ne m ρ c b h7).trans (StableHlo.after_of_forall_not_mem hostOps0 _ (not_written0 b h0)))

/-- An array of pairs as rows of first components between rows of second ones, and back. -/
abbrev toRows (A : FVec F S4194304x2 .f32) : FVec F S65536x128 .f32 :=
  shapeCast S65536x128 (transpose S32768x2x128 [0, 2, 1] (shapeCast S32768x128x2 A shapeCasts_S4194304x2_S32768x128x2) transposes_S32768x128x2_S32768x2x128_0_2_1)
    shapeCasts_S32768x2x128_S65536x128
abbrev ofRows (A : FVec F S65536x128 .f32) : FVec F S4194304x2 .f32 :=
  shapeCast S4194304x2 (transpose S32768x128x2 [0, 2, 1] (shapeCast S32768x2x128 A shapeCasts_S65536x128_S32768x2x128) transposes_S32768x2x128_S32768x128x2_0_2_1)
    shapeCasts_S32768x128x2_S4194304x2
/-- The draws as rows of lanes. -/
abbrev toLanes (A : FVec F S4194304 .f32) : FVec F S32768x128 .f32 := shapeCast S32768x128 A shapeCasts_S4194304_S32768x128

theorem inX_eq (c : Dev nD) : inX m ρ c = toLanes (m ((c : Thread nD τ).loc main_arg1)) := by
  unfold inX V₁
  after_region_results
  rfl
theorem inW_eq (c : Dev nD) : inW m ρ c = toRows (m ((c : Thread nD τ).loc main_arg2)) := by
  unfold inW V₁
  after_region_results
  rfl
theorem inG_eq (c : Dev nD) : inG m ρ c = toRows (m ((c : Thread nD τ).loc main_arg3)) := by
  unfold inG V₁
  after_region_results
  rfl
theorem out_eq (c : Dev nD) : Vₙ m ρ c (Proc.devRef .tc main_v10) = ofRows (outR m ρ c) := by
  unfold Vₙ
  after_region_results
  rw [V₂_out]
  rfl

/-- The program runs to its end, the result the kernel's rows put back as pairs, the arguments as launched, every
    semaphore at zero. -/
theorem run_end : θ_run defs (onTc (τ := τ) (main (F := F))) (s₀ m ρ) (fun r =>
    (∀ c : Dev nD,
      r.2.mem ((c : Thread nD τ).loc main_v10) = ofRows (outR m ρ c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run defs (onTc (τ := τ) (main (F := F))) (s₀ m ρ)).mono (fun r h => ⟨fun c => ⟨?_, ?_, ?_, ?_, ?_⟩, h.2⟩) (run_main m ρ)
  · exact (h.1 c main_v10 rfl).trans (out_eq m ρ c)
  · exact (h.1 c main_arg0 rfl).trans (kept m ρ c main_arg0 (by decide) (by decide) (by decide))
  · exact (h.1 c main_arg1 rfl).trans (kept m ρ c main_arg1 (by decide) (by decide) (by decide))
  · exact (h.1 c main_arg2 rfl).trans (kept m ρ c main_arg2 (by decide) (by decide) (by decide))
  · exact (h.1 c main_arg3 rfl).trans (kept m ρ c main_arg3 (by decide) (by decide) (by decide))

end Cert.Proof.KIdeal

end
-- ==== Proof.Frames.lean ====
/-
  The frames of the program and of its idealization.
-/
module

public import proofs.«01_k».proof.Defs
public import proofs.«01_k».proof.Proof.End
public import proofs.«01_k».proof.Proof.Gen.Kernel

@[expose] public section

noncomputable section

namespace Cert.Proof

open Idealize.ShloMosaic Idealize.ShloMosaic.TcCoe

theorem frame_ideal : Cert.quiescent_KernelIdeal (hKernelIdeal := Cert.KernelIdeal.Gen.facts) := fun m g _ =>
  (θ_run (Cert.KernelIdeal.defs (F := Ideal)) _ _).mono (fun r h => ⟨fun c => (h.1 c).2, h.2⟩) (KIdeal.run_end (F := Ideal) m g)

/-- The idealization's frame at the words. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)
theorem frameAtBits_holds : frameAtBits := fun m g _ =>
  (θ_run (Cert.KernelIdeal.defs (F := Bits)) _ _).mono (fun r h => ⟨fun c => (h.1 c).2, h.2⟩) (KIdeal.run_end (F := Bits) m g)

/-- The two programs are one text. -/
theorem same_frame : frameAtBits = Cert.quiescent_Kernel (hKernel := Cert.Kernel.Gen.facts) := by
  sl_kernel_rfl

theorem frame_bits : Cert.quiescent_Kernel (hKernel := Cert.Kernel.Gen.facts) := same_frame.mp frameAtBits_holds

end Cert.Proof

end
-- ==== Proof.Scalar.lean ====
/-
  The arithmetic the two programs share, on one pair, over the extended reals: the same polynomial nested and as a sum
  of powers, and the sampled direction as the kernel selects it and as the reference does.
-/
module

public import proofs.«01_k».proof.Defs
public import Idealize.ShloMosaic.PureOps.Ideal.Laws
public import Idealize.ShloMosaic.Lib.IdealHost

@[expose] public section

noncomputable section

namespace Cert.Proof.Pair

open Idealize.ShloMosaic

/-! ## The constants -/

/-- The cosine's coefficients, as reals. -/
def C0 : ℝ := 16777207 / 16777216
def C1 : ℝ := -10348939 / 524288
def C2 : ℝ := 8510585 / 131072
def C3 : ℝ := -5589957 / 65536
def C4 : ℝ := 15443573 / 262144
def C5 : ℝ := -11158433 / 524288
/-- The sine's. -/
def S0 : ℝ := 6588397 / 1048576
def S1' : ℝ := -10837457 / 262144
def S2' : ℝ := 10695595 / 131072
def S3' : ℝ := -5021798 / 65536
def S4' : ℝ := 10853667 / 262144
def S5' : ℝ := -13187314 / 1048576

theorem c0_bits : Ideal.ofBits .f32 0x3F7FFFF7#32 = (C0 : EReal) := by simp [Ideal.ofBits, Ideal.ieee, -EReal.coe_mul, C0]; norm_num
theorem c1_bits : Ideal.ofBits .f32 0xC19DE98B#32 = (C1 : EReal) := by simp [Ideal.ofBits, Ideal.ieee, -EReal.coe_mul, C1]; norm_num
theorem c2_bits : Ideal.ofBits .f32 0x4281DC79#32 = (C2 : EReal) := by simp [Ideal.ofBits, Ideal.ieee, -EReal.coe_mul, C2]; norm_num
theorem c3_bits : Ideal.ofBits .f32 0xC2AA978A#32 = (C3 : EReal) := by simp [Ideal.ofBits, Ideal.ieee, -EReal.coe_mul, C3]; norm_num
theorem c4_bits : Ideal.ofBits .f32 0x426BA675#32 = (C4 : EReal) := by simp [Ideal.ofBits, Ideal.ieee, -EReal.coe_mul, C4]; norm_num
theorem c5_bits : Ideal.ofBits .f32 0xC1AA43A1#32 = (C5 : EReal) := by simp [Ideal.ofBits, Ideal.ieee, -EReal.coe_mul, C5]; norm_num
theorem s0_bits : Ideal.ofBits .f32 0x40C90FDA#32 = (S0 : EReal) := by simp [Ideal.ofBits, Ideal.ieee, -EReal.coe_mul, S0]; norm_num
theorem s1_bits : Ideal.ofBits .f32 0xC2255DD1#32 = (S1' : EReal) := by simp [Ideal.ofBits, Ideal.ieee, -EReal.coe_mul, S1']; norm_num
theorem s2_bits : Ideal.ofBits .f32 0x42A333AB#32 = (S2' : EReal) := by simp [Ideal.ofBits, Ideal.ieee, -EReal.coe_mul, S2']; norm_num
theorem s3_bits : Ideal.ofBits .f32 0xC29940CC#32 = (S3' : EReal) := by simp [Ideal.ofBits, Ideal.ieee, -EReal.coe_mul, S3']; norm_num
theorem s4_bits : Ideal.ofBits .f32 0x42259D23#32 = (S4' : EReal) := by simp [Ideal.ofBits, Ideal.ieee, -EReal.coe_mul, S4']; norm_num
theorem s5_bits : Ideal.ofBits .f32 0xC14938F2#32 = (S5' : EReal) := by simp [Ideal.ofBits, Ideal.ieee, -EReal.coe_mul, S5']; norm_num

/-! ## The polynomial -/

/-- The polynomial nested, from its highest coefficient. -/
def nested (c0 c1 c2 c3 c4 c5 z : EReal) : EReal := ((((c5 * z + c4) * z + c3) * z + c2) * z + c1) * z + c0
/-- The polynomial as the sum of its powers. -/
def powers (c0 c1 c2 c3 c4 c5 z : EReal) : EReal :=
  c0 + c1 * z + c2 * (z * z) + c3 * (z * z * z) + c4 * (z * z * (z * z)) + c5 * (z * (z * z * (z * z)))

/-- The two agree on the square of anything, the coefficients real and the first and the last power's negative: on an
    infinite square both are the least extended real. -/
theorem nested_eq (c0 c1 c2 c3 c4 c5 : ℝ) (h1 : c1 < 0) (h5 : c5 < 0) (w : EReal) :
    nested c0 c1 c2 c3 c4 c5 (w * w) = powers c0 c1 c2 c3 c4 c5 (w * w) := by
  have inf : nested c0 c1 c2 c3 c4 c5 ⊤ = powers c0 c1 c2 c3 c4 c5 ⊤ := by
    simp only [nested, powers, EReal.coe_mul_top_of_neg h5, EReal.coe_mul_top_of_neg h1, EReal.bot_add, EReal.add_bot, EReal.bot_mul_top]
  induction w with
  | bot => simpa using inf
  | top => simpa using inf
  | coe r =>
    simp only [nested, powers]
    norm_cast
    ring

/-! ## The sampled direction -/

/-- The fraction of a turn, less the nearest integer. -/
def lessWhole (u : EReal) : EReal := u - Ideal.liftRound Ideal.roundHalfEven u
def cosT (w : EReal) : EReal := powers C0 C1 C2 C3 C4 C5 (w * w)
def sinT (w : EReal) : EReal := w * powers S0 S1' S2' S3' S4' S5' (w * w)

theorem cosT_eq (w : EReal) : nested C0 C1 C2 C3 C4 C5 (w * w) = cosT w :=
  nested_eq _ _ _ _ _ _ (by norm_num [C1]) (by norm_num [C5]) w
theorem sinT_eq (w : EReal) : w * nested S0 S1' S2' S3' S4' S5' (w * w) = sinT w :=
  congrArg (w * ·) (nested_eq _ _ _ _ _ _ (by norm_num [S1']) (by norm_num [S5']) w)

/-- The absolute value. -/
abbrev ab (x : EReal) : EReal := max x (-x)

theorem ab_nonneg (x : EReal) : 0 ≤ ab x := by
  rcases le_total 0 x with h | h
  · exact le_max_of_le_left h
  · exact le_max_of_le_right (by simpa using EReal.neg_le_neg_iff.mpr h)
theorem ab_pos {x : EReal} (h : x ≠ 0) : 0 < ab x := by
  rcases lt_or_gt_of_ne h with h | h
  · exact lt_max_of_lt_right (by simpa using EReal.neg_lt_neg_iff.mpr h)
  · exact lt_max_of_lt_left h
theorem ab_zero : ab 0 = 0 := by simp [ab]

/-- The direction's first component on one pair as the reference selects it. -/
def dirX (x y : EReal) : EReal :=
  if ab y < ab x then x * cosT (lessWhole (2 * Ideal.div y x)) else if x = 0 ∧ y = 0 then 0 else y * cosT (lessWhole (2 * Ideal.div x y))
/-- Its second component. -/
def dirY (x y : EReal) : EReal :=
  if ab y < ab x then x * sinT (lessWhole (2 * Ideal.div y x)) else if x = 0 ∧ y = 0 then 0 else -(y * sinT (lessWhole (2 * Ideal.div x y)))

theorem ne_zero_of_dom {x y : EReal} (h : ab y < ab x) : x ≠ 0 := by
  rintro rfl; rw [ab_zero] at h; exact absurd (ab_nonneg y) (not_le.mpr h)
theorem ne_zero_of_not_dom {x y : EReal} (h : ¬ ab y < ab x) (h0 : ¬ (x = 0 ∧ y = 0)) : y ≠ 0 := by
  rintro rfl
  rw [ab_zero] at h
  by_cases hx : x = 0
  · exact h0 ⟨hx, rfl⟩
  · exact h (ab_pos hx)

end Cert.Proof.Pair

end
-- ==== Proof.Kernel.lean ====
/-
  What the kernel computes for one pair, over the extended reals.
-/
module

public import proofs.«01_k».proof.Proof.Slot
public import proofs.«01_k».proof.Proof.Scalar

@[expose] public section

noncomputable section

namespace Cert.Proof.KIdeal

open Cert.KernelIdeal Cert.KernelIdeal.Gen
open Idealize.ShloMosaic Cert.Proof.Pair

theorem select_ogt {α : Type} (x y : EReal) (a b : α) : Scalar.select (Ideal.cmp .ogt x y) a b = if y < x then a else b := by
  by_cases h : y < x <;> simp [Scalar.select, Ideal.cmp, h]
theorem select_olt {α : Type} (x y : EReal) (a b : α) : Scalar.select (Ideal.cmp .olt x y) a b = if x < y then a else b := by
  by_cases h : x < y <;> simp [Scalar.select, Ideal.cmp, h]

/-- A coordinate in [-1, 1] from its uniform draw. -/
def coord (a : EReal) : EReal := a * Ideal.ofBits .f32 0x40000000#32 - 1

/-- The turn the kernel computes. -/
def kTurn (x y : EReal) : EReal :=
  lessWhole (Ideal.div (if ab y < ab x then y else x) (if 0 < max (ab x) (ab y) then (if ab y < ab x then x else y) else 1) * Ideal.ofBits .f32 0x40000000#32)
def kX (x y : EReal) : EReal := (if ab y < ab x then x else y) * cosT (kTurn x y)
def kY (x y : EReal) : EReal := (if ab y < ab x then (if ab y < ab x then x else y) else 0 - (if ab y < ab x then x else y)) * sinT (kTurn x y)

theorem two_bits : Ideal.ofBits .f32 0x40000000#32 = 2 := by
  have : Ideal.ofBits .f32 0x40000000#32 = ((2 : ℝ) : EReal) := by simp [Ideal.ofBits, Ideal.ieee, -EReal.coe_mul]; norm_num
  rw [this]; norm_cast

/-- The kernel's selections give the reference's direction. -/
theorem kX_eq (x y : EReal) : kX x y = dirX x y := by
  unfold kX dirX kTurn
  rw [two_bits]
  by_cases h : ab y < ab x
  · have hp : 0 < max (ab x) (ab y) := lt_max_of_lt_left (ab_pos (ne_zero_of_dom h))
    simp only [if_pos h, if_pos hp, mul_comm (2 : EReal)]
  · by_cases h0 : x = 0 ∧ y = 0
    · obtain ⟨rfl, rfl⟩ := h0
      simp
    · have hp : 0 < max (ab x) (ab y) := lt_max_of_lt_right (ab_pos (ne_zero_of_not_dom h h0))
      simp only [if_neg h, if_pos hp, if_neg h0, mul_comm (2 : EReal)]
theorem kY_eq (x y : EReal) : kY x y = dirY x y := by
  unfold kY dirY kTurn
  rw [two_bits]
  by_cases h : ab y < ab x
  · have hp : 0 < max (ab x) (ab y) := lt_max_of_lt_left (ab_pos (ne_zero_of_dom h))
    simp only [if_pos h, if_pos hp, mul_comm (2 : EReal)]
  · by_cases h0 : x = 0 ∧ y = 0
    · obtain ⟨rfl, rfl⟩ := h0
      simp
    · have hp : 0 < max (ab x) (ab y) := lt_max_of_lt_right (ab_pos (ne_zero_of_not_dom h h0))
      simp only [if_neg h, if_pos hp, if_neg h0, mul_comm (2 : EReal), zero_sub, EReal.neg_mul]

section
variable (x y : FVec Ideal S512x128 .f32) (j : S512x128.Idx)

theorem signed_at (a : FVec Ideal S512x128 .f32) : signed a j = coord (a j) := by
  show a j * _ - Ideal.ofBits .f32 0x3F800000#32 = _
  rw [Ideal.ofBits_one_f32]; rfl
theorem radius_at : radius x y j = if ab (y j) < ab (x j) then x j else y j := select_ogt _ _ _ _
theorem turn_at : turn x y j = kTurn (x j) (y j) := by
  show lessWhole (Ideal.div (Scalar.select (Ideal.cmp .ogt (ab (x j)) (ab (y j))) (y j) (x j))
    (Scalar.select (Ideal.cmp .ogt (max (ab (x j)) (ab (y j))) (Ideal.ofBits .f32 0x00000000#32)) (radius x y j) (Ideal.ofBits .f32 0x3F800000#32))
      * Ideal.ofBits .f32 0x40000000#32) = _
  rw [select_ogt, select_ogt, radius_at, Ideal.ofBits_one_f32, Ideal.ofBits_zero_f32]; rfl
theorem cosP_at : cosP x j = cosT (x j) := by
  rw [← cosT_eq, ← c0_bits, ← c1_bits, ← c2_bits, ← c3_bits, ← c4_bits, ← c5_bits]; rfl
theorem sinP_at : sinP x j = sinT (x j) := by
  rw [← sinT_eq, ← s0_bits, ← s1_bits, ← s2_bits, ← s3_bits, ← s4_bits, ← s5_bits]; rfl

variable (p : FVec Ideal S8x128 .f32) (s : Ideal .f32) (r a b g : FVec Ideal S512x128 .f32)

/-- The even rows at one lane, -/
theorem evenV_at (P : EReal) (hp : ∀ i, p i = P) :
    evenV p s r a b g j = if r j < P then dirX (coord (a j)) (coord (b j)) else g j * s := by
  have e : evenV p s r a b g j = Scalar.select (Ideal.cmp .olt (r j)
      (broadcastTo S512x128 (extractStridedSlice S1x128 ![0, 0] p slices_S8x128_o0_0_S1x128) broadcasts_S1x128_S512x128 j))
      (radius (signed a) (signed b) j * cosP (turn (signed a) (signed b)) j) (g j * s) := rfl
  have h : broadcastTo S512x128 (extractStridedSlice S1x128 ![0, 0] p slices_S8x128_o0_0_S1x128) broadcasts_S1x128_S512x128 j = P := hp _
  rw [e, select_olt, h, radius_at, cosP_at, turn_at, signed_at, signed_at, ← kX_eq]; rfl
/-- and the odd ones. -/
theorem oddV_at (P : EReal) (hp : ∀ i, p i = P) :
    oddV p s r a b g j = if r j < P then dirY (coord (a j)) (coord (b j)) else g j * s := by
  have e : oddV p s r a b g j = Scalar.select (Ideal.cmp .olt (r j)
      (broadcastTo S512x128 (extractStridedSlice S1x128 ![0, 0] p slices_S8x128_o0_0_S1x128) broadcasts_S1x128_S512x128 j))
      (Scalar.select (Ideal.cmp .ogt (ab (signed a j)) (ab (signed b j))) (radius (signed a) (signed b) j)
        (Ideal.ofBits .f32 0x00000000#32 - radius (signed a) (signed b) j) * sinP (turn (signed a) (signed b)) j) (g j * s) := rfl
  have h : broadcastTo S512x128 (extractStridedSlice S1x128 ![0, 0] p slices_S8x128_o0_0_S1x128) broadcasts_S1x128_S512x128 j = P := hp _
  rw [e, select_olt, select_ogt, h, radius_at, sinP_at, turn_at, signed_at, signed_at, ← kY_eq, Ideal.ofBits_zero_f32]; rfl
end

/-- The mixing probability from the two scores. -/
def mixP (a b : EReal) : EReal :=
  Ideal.div (Ideal.exp (b - max a b)) (Ideal.exp (a - max a b) + Ideal.exp (b - max a b))
theorem probV_at (a b : Ideal .f32) (i : S8x128.Idx) : probV a b i = mixP a b := rfl

end Cert.Proof.KIdeal

end
-- ==== Proof.Layout.lean ====
/-
  The kernel's result read at a pair: through the rows, the chunks and the interleaving back to the arguments.
-/
module

public import proofs.«01_k».proof.Proof.End
public import proofs.«01_k».proof.Proof.Kernel

@[expose] public section

noncomputable section

namespace Cert.Proof.KIdeal

open Cert.KernelIdeal Cert.KernelIdeal.Gen
open Idealize.ShloMosaic Idealize.ShloMosaic.TcCoe
open Cert.Proof.Pair

/-! ## The layout -/

section
variable {F : FTy → Type} [FloatOps F]

/-- Pair `n`'s block of 128 pairs, and its lane. -/
abbrev rowOf (n : Fin 4194304) : Fin 32768 := ⟨n.val / 128, by omega⟩
abbrev laneOf (n : Fin 4194304) : Fin 128 := ⟨n.val % 128, by omega⟩
/-- The row of the pair's first or second component. -/
abbrev rowAt (n : Fin 4194304) (k : Fin 2) : Fin 65536 := ⟨2 * (n.val / 128) + k.val, by omega⟩

theorem toLanes_at (A : FVec F S4194304 .f32) (n : Fin 4194304) : toLanes A (ValueIdx.ix2 (rowOf n) (laneOf n)) = A (ValueIdx.ix1 n) := by
  refine shapeCast_apply _ _ _ _ ?_
  rw [Shape.rowMajor_val_two, Shape.rowMajor_val_one]
  show n.val = n.val / 128 * 128 + n.val % 128
  omega
theorem toRows_at (A : FVec F S4194304x2 .f32) (n : Fin 4194304) (k : Fin 2) :
    toRows A (ValueIdx.ix2 (rowAt n k) (laneOf n)) = A (ValueIdx.ix2 n k) := by
  refine (shapeCast_apply _ _ _ (ValueIdx.ix3 (rowOf n) k (laneOf n)) ?_).trans ((transpose_apply _ _ _ _ (ValueIdx.ix3 (rowOf n) (laneOf n) k) ?_).trans
    (shapeCast_apply _ _ _ (ValueIdx.ix2 n k) ?_))
  · rw [Shape.rowMajor_val_three, Shape.rowMajor_val_two]
    show (n.val / 128 * 2 + k.val) * 128 + n.val % 128 = (2 * (n.val / 128) + k.val) * 128 + n.val % 128
    omega
  · intro b
    match b with
    | ⟨0, _⟩ => rfl
    | ⟨1, _⟩ => rfl
    | ⟨2, _⟩ => rfl
  · rw [Shape.rowMajor_val_three, Shape.rowMajor_val_two]
    show n.val * 2 + k.val = (n.val / 128 * 128 + n.val % 128) * 2 + k.val
    omega
theorem ofRows_at (A : FVec F S65536x128 .f32) (n : Fin 4194304) (k : Fin 2) :
    ofRows A (ValueIdx.ix2 n k) = A (ValueIdx.ix2 (rowAt n k) (laneOf n)) := by
  refine (shapeCast_apply _ _ _ (ValueIdx.ix3 (rowOf n) (laneOf n) k) ?_).trans ((transpose_apply _ _ _ _ (ValueIdx.ix3 (rowOf n) k (laneOf n)) ?_).trans
    (shapeCast_apply _ _ _ (ValueIdx.ix2 (rowAt n k) (laneOf n)) ?_))
  · rw [Shape.rowMajor_val_three, Shape.rowMajor_val_two]
    show (n.val / 128 * 128 + n.val % 128) * 2 + k.val = n.val * 2 + k.val
    omega
  · intro b
    match b with
    | ⟨0, _⟩ => rfl
    | ⟨1, _⟩ => rfl
    | ⟨2, _⟩ => rfl
  · rw [Shape.rowMajor_val_three, Shape.rowMajor_val_two]
    show (2 * (n.val / 128) + k.val) * 128 + n.val % 128 = (n.val / 128 * 2 + k.val) * 128 + n.val % 128
    omega

variable (c : Dev nD) (XX : Con c F xM) (XW : Con c F woM) (XG : Con c F gM) (p : FVec F S8x128 .f32)

/-- The chunk a pair lies in, and its row in the chunk's half. -/
abbrev chunkOf (n : Fin 4194304) : Fin 64 := ⟨n.val / 128 / 512, by omega⟩
abbrev hrow (n : Fin 4194304) : S512x128.Idx := ValueIdx.ix2 ⟨n.val / 128 % 512, by omega⟩ (laneOf n)

theorem vX_at (n : Fin 4194304) : vX c XX (chunkOf n) (hrow n) = (show FVec F S32768x128 .f32 from XX) (ValueIdx.ix2 (rowOf n) (laneOf n)) := by
  have key (y : S32768x128.Idx) (h0 : (y 0).val = 512 * (n.val / 128 / 512) + 1 * (n.val / 128 % 512)) (h1 : (y 1).val = 0 + 1 * (n.val % 128)) :
      (show FVec F S32768x128 .f32 from XX) y = (show FVec F S32768x128 .f32 from XX) (ValueIdx.ix2 (rowOf n) (laneOf n)) := by
    refine congrArg (show FVec F S32768x128 .f32 from XX) ((ValueIdx.eq_ix2 y).trans (congrArg₂ ValueIdx.ix2 (Fin.ext ?_) (Fin.ext ?_)))
    · show (y 0).val = n.val / 128; omega
    · show (y 1).val = n.val % 128; omega
  exact key _ rfl rfl
theorem vW_even (n : Fin 4194304) : vW c XW (chunkOf n) (evenR.idx (hrow n)) = (show FVec F S65536x128 .f32 from XW) (ValueIdx.ix2 (rowAt n 0) (laneOf n)) := by
  have key (y : S65536x128.Idx) (h0 : (y 0).val = 1024 * (n.val / 128 / 512) + 1 * (0 + 2 * (n.val / 128 % 512)))
      (h1 : (y 1).val = 0 + 1 * (0 + 1 * (n.val % 128))) :
      (show FVec F S65536x128 .f32 from XW) y = (show FVec F S65536x128 .f32 from XW) (ValueIdx.ix2 (rowAt n 0) (laneOf n)) := by
    refine congrArg (show FVec F S65536x128 .f32 from XW) ((ValueIdx.eq_ix2 y).trans (congrArg₂ ValueIdx.ix2 (Fin.ext ?_) (Fin.ext ?_)))
    · show (y 0).val = 2 * (n.val / 128) + 0; omega
    · show (y 1).val = n.val % 128; omega
  exact key _ rfl rfl
theorem vW_odd (n : Fin 4194304) : vW c XW (chunkOf n) (oddR.idx (hrow n)) = (show FVec F S65536x128 .f32 from XW) (ValueIdx.ix2 (rowAt n 1) (laneOf n)) := by
  have key (y : S65536x128.Idx) (h0 : (y 0).val = 1024 * (n.val / 128 / 512) + 1 * (1 + 2 * (n.val / 128 % 512)))
      (h1 : (y 1).val = 0 + 1 * (0 + 1 * (n.val % 128))) :
      (show FVec F S65536x128 .f32 from XW) y = (show FVec F S65536x128 .f32 from XW) (ValueIdx.ix2 (rowAt n 1) (laneOf n)) := by
    refine congrArg (show FVec F S65536x128 .f32 from XW) ((ValueIdx.eq_ix2 y).trans (congrArg₂ ValueIdx.ix2 (Fin.ext ?_) (Fin.ext ?_)))
    · show (y 0).val = 2 * (n.val / 128) + 1; omega
    · show (y 1).val = n.val % 128; omega
  exact key _ rfl rfl
theorem vG_even (n : Fin 4194304) : vG c XG (chunkOf n) (evenR.idx (hrow n)) = (show FVec F S65536x128 .f32 from XG) (ValueIdx.ix2 (rowAt n 0) (laneOf n)) := by
  have key (y : S65536x128.Idx) (h0 : (y 0).val = 1024 * (n.val / 128 / 512) + 1 * (0 + 2 * (n.val / 128 % 512)))
      (h1 : (y 1).val = 0 + 1 * (0 + 1 * (n.val % 128))) :
      (show FVec F S65536x128 .f32 from XG) y = (show FVec F S65536x128 .f32 from XG) (ValueIdx.ix2 (rowAt n 0) (laneOf n)) := by
    refine congrArg (show FVec F S65536x128 .f32 from XG) ((ValueIdx.eq_ix2 y).trans (congrArg₂ ValueIdx.ix2 (Fin.ext ?_) (Fin.ext ?_)))
    · show (y 0).val = 2 * (n.val / 128) + 0; omega
    · show (y 1).val = n.val % 128; omega
  exact key _ rfl rfl
theorem vG_odd (n : Fin 4194304) : vG c XG (chunkOf n) (oddR.idx (hrow n)) = (show FVec F S65536x128 .f32 from XG) (ValueIdx.ix2 (rowAt n 1) (laneOf n)) := by
  have key (y : S65536x128.Idx) (h0 : (y 0).val = 1024 * (n.val / 128 / 512) + 1 * (1 + 2 * (n.val / 128 % 512)))
      (h1 : (y 1).val = 0 + 1 * (0 + 1 * (n.val % 128))) :
      (show FVec F S65536x128 .f32 from XG) y = (show FVec F S65536x128 .f32 from XG) (ValueIdx.ix2 (rowAt n 1) (laneOf n)) := by
    refine congrArg (show FVec F S65536x128 .f32 from XG) ((ValueIdx.eq_ix2 y).trans (congrArg₂ ValueIdx.ix2 (Fin.ext ?_) (Fin.ext ?_)))
    · show (y 0).val = 2 * (n.val / 128) + 1; omega
    · show (y 1).val = n.val % 128; omega
  exact key _ rfl rfl

/-- A row of the result as its chunk's block, the block's row and lane given. -/
theorem outOf_at (q : S65536x128.Idx) (i : Fin 64) (z : S1024x128.Idx) (h0 : (q 0).val = 1024 * i.val + (z 0).val) (h1 : (q 1).val = (z 1).val) :
    outOf c XX XW XG p q = blockOut p (k0_pay117 (F := F)) (vX c XX i) (vW c XW i) (vG c XG i) z := by
  have hz : (z 0).val < 1024 := (z 0).isLt
  unfold outOf
  dsimp only
  have e1 : (⟨(q 0).val / 1024, by have : (q 0).val < 65536 := (q 0).isLt; omega⟩ : Fin 64) = i := Fin.ext (by show (q 0).val / 1024 = i.val; omega)
  have e2 : ValueIdx.ix2 (⟨(q 0).val % 1024, Nat.mod_lt _ (by omega)⟩ : Fin 1024) (⟨(q 1).val, (q 1).isLt⟩ : Fin 128) = z := by
    refine Eq.trans ?_ (ValueIdx.eq_ix2 z).symm
    refine congrArg₂ ValueIdx.ix2 (Fin.ext ?_) (Fin.ext ?_)
    · show (q 0).val % 1024 = (z 0).val; omega
    · show (q 1).val = (z 1).val; omega
  rw [e1, e2]

theorem out_even (n : Fin 4194304) : outOf c XX XW XG p (ValueIdx.ix2 (rowAt n 0) (laneOf n))
    = evenV p (k0_pay117 (F := F)) (vX c XX (chunkOf n)) (fun j => vW c XW (chunkOf n) (evenR.idx j)) (fun j => vW c XW (chunkOf n) (oddR.idx j))
        (fun j => vG c XG (chunkOf n) (evenR.idx j)) (hrow n) := by
  refine (outOf_at c XX XW XG p _ (chunkOf n) (ValueIdx.ix2 ⟨2 * (n.val / 128 % 512), by omega⟩ (laneOf n)) ?_ rfl).trans ?_
  · show 2 * (n.val / 128) + 0 = 1024 * (n.val / 128 / 512) + 2 * (n.val / 128 % 512); omega
  · unfold blockOut
    rw [if_pos (show 2 * (n.val / 128 % 512) % 2 = 0 by omega)]
    refine congrArg _ (congrArg₂ ValueIdx.ix2 (Fin.ext ?_) rfl)
    show 2 * (n.val / 128 % 512) / 2 = n.val / 128 % 512; omega
theorem out_odd (n : Fin 4194304) : outOf c XX XW XG p (ValueIdx.ix2 (rowAt n 1) (laneOf n))
    = oddV p (k0_pay117 (F := F)) (vX c XX (chunkOf n)) (fun j => vW c XW (chunkOf n) (evenR.idx j)) (fun j => vW c XW (chunkOf n) (oddR.idx j))
        (fun j => vG c XG (chunkOf n) (oddR.idx j)) (hrow n) := by
  refine (outOf_at c XX XW XG p _ (chunkOf n) (ValueIdx.ix2 ⟨2 * (n.val / 128 % 512) + 1, by omega⟩ (laneOf n)) ?_ rfl).trans ?_
  · show 2 * (n.val / 128) + 1 = 1024 * (n.val / 128 / 512) + (2 * (n.val / 128 % 512) + 1); omega
  · unfold blockOut
    rw [if_neg (show ¬ (2 * (n.val / 128 % 512) + 1) % 2 = 0 by omega)]
    refine congrArg _ (congrArg₂ ValueIdx.ix2 (Fin.ext ?_) rfl)
    show (2 * (n.val / 128 % 512) + 1) / 2 = n.val / 128 % 512; omega

/-! ## The scores -/

variable (m : (ℓ : Loc nD τ sig) → Buf (Elt F) ℓ) (ρ : Dev nD → PrngReg)

theorem iblk_eq (q : S1x2.Idx) : (show FVec F S1x2 .f32 from iblk m ρ c) q = (show FVec F S1x2 .f32 from m ((c : Thread nD τ).loc main_arg0)) q := by
  have e : V₁ m ρ c (Proc.devRef .tc main_arg0) = m ((c : Thread nD τ).loc main_arg0) :=
    StableHlo.after_of_forall_not_mem hostOps0 _ (not_written0 main_arg0 (by decide))
  have key (y : S1x2.Idx) (h0 : (y 0).val = (q 0).val) (h1 : (y 1).val = (q 1).val) :
      (show FVec F S1x2 .f32 from V₁ m ρ c (Proc.devRef .tc main_arg0)) y = (show FVec F S1x2 .f32 from m ((c : Thread nD τ).loc main_arg0)) q := by
    rw [show y = q from funext fun a => Fin.ext (match a with | ⟨0, _⟩ => h0 | ⟨1, _⟩ => h1)]
    exact congrFun e q
  unfold iblk
  refine key _ ?_ ?_
  · show 0 * 1 + 1 * (q 0).val = (q 0).val; omega
  · show 0 * 2 + 1 * (q 1).val = (q 1).val; omega

theorem scoreA_eq : scoreA c st0 (st0.view.rep (iblk m ρ c)) = (show FVec F S1x2 .f32 from m ((c : Thread nD τ).loc main_arg0)) (ValueIdx.ix2 0 0) := by
  unfold scoreA
  rw [View.readAt_rep]
  refine Eq.trans ?_ (iblk_eq c m ρ (ValueIdx.ix2 0 0))
  refine congrArg (show FVec F S1x2 .f32 from iblk m ρ c) (funext fun a => Fin.ext ?_)
  match a with
  | ⟨0, _⟩ => rfl
  | ⟨1, _⟩ => rfl
theorem scoreB_eq : scoreB c st0 (st0.view.rep (iblk m ρ c)) = (show FVec F S1x2 .f32 from m ((c : Thread nD τ).loc main_arg0)) (ValueIdx.ix2 0 1) := by
  unfold scoreB
  rw [View.readAt_rep]
  refine Eq.trans ?_ (iblk_eq c m ρ (ValueIdx.ix2 0 1))
  refine congrArg (show FVec F S1x2 .f32 from iblk m ρ c) (funext fun a => Fin.ext ?_)
  match a with
  | ⟨0, _⟩ => rfl
  | ⟨1, _⟩ => rfl
end

end Cert.Proof.KIdeal

end
-- ==== Proof.Ref.lean ====
/-
  What the reference computes for one pair, over the extended reals.
-/
module

public import proofs.«01_k».proof.Proof.Gen.ReferenceIdeal.Read
public import proofs.«01_k».proof.Proof.Gen.ReferenceIdeal.Run
public import proofs.«01_k».proof.Proof.Kernel

@[expose] public section

noncomputable section

namespace Cert.Proof.RIdeal

open Cert.ReferenceIdeal Cert.ReferenceIdeal.Gen Cert.ReferenceIdeal.Read
open Idealize.ShloMosaic Cert.Proof.Pair

theorem and_ofBool (a b : Bool) : IntOp.andi (BitVec.ofBool a) (BitVec.ofBool b) = BitVec.ofBool (a && b) := by
  cases a <;> cases b <;> simp [IntOp.andi]
theorem not_ofBool (a : Bool) : ~~~(BitVec.ofBool a) = BitVec.ofBool (!a) := by
  cases a <;> simp
theorem select_bool {α : Type} (a : Bool) (x y : α) : Scalar.select (BitVec.ofBool a) x y = if a then x else y := by
  cases a <;> simp [Scalar.select]

variable (x0 : (⟨S1x2, .f32⟩ : BufTy).Contents (Elt Ideal)) (x1 : (⟨S4194304, .f32⟩ : BufTy).Contents (Elt Ideal))
  (x2 x3 : (⟨S4194304x2, .f32⟩ : BufTy).Contents (Elt Ideal)) (i : S4194304.Idx)

/-- The two coordinates of pair `i`. -/
abbrev xAt : EReal := val_main_v20 (F := Ideal) x2 i
abbrev yAt : EReal := val_main_v22 (F := Ideal) x2 i

/-- Where the pair is not the origin. -/
theorem nonzero_at : val_main_v28 (F := Ideal) x2 i = BitVec.ofBool (!(decide (xAt x2 i = 0) && decide (yAt x2 i = 0))) := by
  rw [val_main_v28_apply, val_main_v27_apply, val_main_v24_apply, val_main_v26_apply, val_main_v23_apply, val_main_v25_apply,
    val_main_cst_4_apply, val_main_cst_5_apply]
  show ~~~(IntOp.andi (Ideal.cmp .oeq (xAt x2 i) (Ideal.ofBits .f32 0x00000000#32)) (Ideal.cmp .oeq (yAt x2 i) (Ideal.ofBits .f32 0x00000000#32))) = _
  rw [Ideal.ofBits_zero_f32]
  show ~~~(IntOp.andi (BitVec.ofBool _) (BitVec.ofBool _)) = _
  rw [and_ofBool, not_ofBool]
/-- Where the first coordinate is the radius, -/
theorem first_at : val_main_v32 (F := Ideal) x2 i
    = BitVec.ofBool (decide (ab (yAt x2 i) < ab (xAt x2 i)) && !(decide (xAt x2 i = 0) && decide (yAt x2 i = 0))) := by
  rw [val_main_v32_apply, nonzero_at, val_main_v31_apply]
  show IntOp.andi (BitVec.ofBool (decide (ab (yAt x2 i) < ab (xAt x2 i)))) _ = _
  rw [and_ofBool]
/-- and where the second is. -/
theorem second_at : val_main_v34 (F := Ideal) x2 i
    = BitVec.ofBool (!(decide (ab (yAt x2 i) < ab (xAt x2 i)) && !(decide (xAt x2 i = 0) && decide (yAt x2 i = 0)))
        && !(decide (xAt x2 i = 0) && decide (yAt x2 i = 0))) := by
  rw [val_main_v34_apply, val_main_v33_apply, first_at, nonzero_at, not_ofBool, and_ofBool]

/-- The divisors. -/
theorem safe_x_at : val_main_v35 (F := Ideal) x2 i = Scalar.select (val_main_v32 (F := Ideal) x2 i) (xAt x2 i) 1 := by
  rw [val_main_v35_apply, val_main_call0_v1_apply, val_main_call0_v0_apply, val_main_cst_6_apply]
  exact congrArg (Scalar.select _ _) Ideal.ofBits_one_f32
theorem safe_y_at : val_main_v36 (F := Ideal) x2 i = Scalar.select (val_main_v34 (F := Ideal) x2 i) (yAt x2 i) 1 := by
  rw [val_main_v36_apply, val_main_call1_v1_apply, val_main_call1_v0_apply, val_main_cst_7_apply]
  exact congrArg (Scalar.select _ _) Ideal.ofBits_one_f32

/-- The turns. -/
theorem turn1_at : val_main_v41 (F := Ideal) x2 i = lessWhole (2 * Ideal.div (yAt x2 i) (val_main_v35 (F := Ideal) x2 i)) := by
  rw [← KIdeal.two_bits]
  rw [val_main_v41_apply, val_main_v40_apply, val_main_v39_apply, val_main_v38_apply, val_main_cst_8_apply]
  rfl
theorem turn2_at : val_main_v72 (F := Ideal) x2 i = lessWhole (2 * Ideal.div (yAt x2 i) (val_main_v35 (F := Ideal) x2 i)) := by
  rw [← KIdeal.two_bits]
  rw [val_main_v72_apply, val_main_v71_apply, val_main_v70_apply, val_main_v69_apply, val_main_cst_15_apply]
  rfl
theorem turn3_at : val_main_v104 (F := Ideal) x2 i = lessWhole (2 * Ideal.div (xAt x2 i) (val_main_v36 (F := Ideal) x2 i)) := by
  rw [← KIdeal.two_bits]
  rw [val_main_v104_apply, val_main_v103_apply, val_main_v102_apply, val_main_v101_apply, val_main_cst_22_apply]
  rfl
theorem turn4_at : val_main_v135 (F := Ideal) x2 i = lessWhole (2 * Ideal.div (xAt x2 i) (val_main_v36 (F := Ideal) x2 i)) := by
  rw [← KIdeal.two_bits]
  rw [val_main_v135_apply, val_main_v134_apply, val_main_v133_apply, val_main_v132_apply, val_main_cst_29_apply]
  rfl

/-- The cosines and the sines. -/
theorem cos1_at : val_main_v66 (F := Ideal) x2 i = cosT (val_main_v41 (F := Ideal) x2 i) := by
  rw [val_main_v66_apply, val_main_v60_apply, val_main_v55_apply, val_main_v50_apply, val_main_v46_apply,
    val_main_v45_apply, val_main_v44_apply, val_main_v43_apply, val_main_v49_apply, val_main_v48_apply, val_main_v54_apply, val_main_v53_apply,
    val_main_v59_apply, val_main_v58_apply, val_main_v65_apply, val_main_v64_apply]
  unfold cosT powers
  rw [← c0_bits, ← c1_bits, ← c2_bits, ← c3_bits, ← c4_bits, ← c5_bits]
  rfl
theorem sin1_at : val_main_v98 (F := Ideal) x2 i = sinT (val_main_v72 (F := Ideal) x2 i) := by
  rw [val_main_v98_apply, val_main_v97_apply, val_main_v91_apply, val_main_v86_apply, val_main_v81_apply, val_main_v77_apply,
    val_main_v76_apply, val_main_v75_apply, val_main_v74_apply, val_main_v80_apply, val_main_v79_apply, val_main_v85_apply, val_main_v84_apply,
    val_main_v90_apply, val_main_v89_apply, val_main_v96_apply, val_main_v95_apply]
  unfold sinT powers
  rw [← s0_bits, ← s1_bits, ← s2_bits, ← s3_bits, ← s4_bits, ← s5_bits]
  rfl
theorem cos2_at : val_main_v129 (F := Ideal) x2 i = cosT (val_main_v104 (F := Ideal) x2 i) := by
  rw [val_main_v129_apply, val_main_v123_apply, val_main_v118_apply, val_main_v113_apply, val_main_v109_apply,
    val_main_v108_apply, val_main_v107_apply, val_main_v106_apply, val_main_v112_apply, val_main_v111_apply, val_main_v117_apply, val_main_v116_apply,
    val_main_v122_apply, val_main_v121_apply, val_main_v128_apply, val_main_v127_apply]
  unfold cosT powers
  rw [← c0_bits, ← c1_bits, ← c2_bits, ← c3_bits, ← c4_bits, ← c5_bits]
  rfl
theorem sin2_at : val_main_v161 (F := Ideal) x2 i = sinT (val_main_v135 (F := Ideal) x2 i) := by
  rw [val_main_v161_apply, val_main_v160_apply, val_main_v154_apply, val_main_v149_apply, val_main_v144_apply, val_main_v140_apply,
    val_main_v139_apply, val_main_v138_apply, val_main_v137_apply, val_main_v143_apply, val_main_v142_apply, val_main_v148_apply, val_main_v147_apply,
    val_main_v153_apply, val_main_v152_apply, val_main_v159_apply, val_main_v158_apply]
  unfold sinT powers
  rw [← s0_bits, ← s1_bits, ← s2_bits, ← s3_bits, ← s4_bits, ← s5_bits]
  rfl

/-- The sampled direction's first component, -/
theorem dirX_at : val_main_v165 (F := Ideal) x2 i = dirX (xAt x2 i) (yAt x2 i) := by
  rw [val_main_v165_apply, val_main_v164_apply, val_main_call6_v1_apply, val_main_call6_v0_apply, val_main_cst_36_apply,
    val_main_v67_apply, val_main_v130_apply, cos1_at, cos2_at, turn1_at, turn3_at, safe_x_at, safe_y_at, first_at, second_at]
  simp only [select_bool, Ideal.ofBits_def, Ideal.mulf_def, Ideal.hostConvertf_def, Ideal.ofBits_zero_f32]
  show (if _ then xAt x2 i * _ else if _ then yAt x2 i * _ else 0) = _
  generalize xAt x2 i = x
  generalize yAt x2 i = y
  unfold dirX
  by_cases h : ab y < ab x
  · have hx := ne_zero_of_dom h
    simp [h, hx]
  · by_cases h0 : x = 0 ∧ y = 0
    · obtain ⟨rfl, rfl⟩ := h0
      simp
    · have hy := ne_zero_of_not_dom h h0
      simp [h, hy]
/-- and its second. -/
theorem dirY_at : val_main_v167 (F := Ideal) x2 i = dirY (xAt x2 i) (yAt x2 i) := by
  rw [val_main_v167_apply, val_main_v166_apply, val_main_call8_v1_apply, val_main_call8_v0_apply, val_main_cst_37_apply,
    val_main_v99_apply, val_main_v163_apply, val_main_v162_apply, sin1_at, sin2_at, turn2_at, turn4_at, safe_x_at, safe_y_at, first_at, second_at]
  simp only [select_bool, Ideal.ofBits_def, Ideal.mulf_def, Ideal.hostNegf_def, Ideal.negf_def, Ideal.ofBits_zero_f32]
  show (if _ then xAt x2 i * _ else if _ then -(yAt x2 i * _) else 0) = _
  generalize xAt x2 i = x
  generalize yAt x2 i = y
  unfold dirY
  by_cases h : ab y < ab x
  · have hx := ne_zero_of_dom h
    simp [h, hx]
  · by_cases h0 : x = 0 ∧ y = 0
    · obtain ⟨rfl, rfl⟩ := h0
      simp
    · have hy := ne_zero_of_not_dom h h0
      simp [h, hy]

end Cert.Proof.RIdeal

end
-- ==== Proof.RefAt.lean ====
/-
  The reference's result read at a pair: the mixing probability, the mask, and the two components.
-/
module

public import proofs.«01_k».proof.Proof.Ref
public import Idealize.ShloMosaic.Lib.Pointwise

@[expose] public section

noncomputable section

namespace Cert.Proof.RIdeal

open Cert.ReferenceIdeal Cert.ReferenceIdeal.Gen Cert.ReferenceIdeal.Read
open Idealize.ShloMosaic Cert.Proof.Pair
open Cert.Proof.KIdeal (coord mixP)

variable (x0 : (⟨S1x2, .f32⟩ : BufTy).Contents (Elt Ideal)) (x1 : (⟨S4194304, .f32⟩ : BufTy).Contents (Elt Ideal))
  (x2 x3 : (⟨S4194304x2, .f32⟩ : BufTy).Contents (Elt Ideal)) (n : Fin 4194304)

/-- The two scores. -/
abbrev w0 : EReal := x0 (ValueIdx.ix2 0 0)
abbrev w1 : EReal := x0 (ValueIdx.ix2 0 1)

theorem neg_inf_bits : Ideal.ofBits .f32 0xFF800000#32 = ⊥ := by simp [Ideal.ofBits, Ideal.ieee]

/-- The larger score. -/
theorem larger (j : S1.Idx) : val_main_v0 (F := Ideal) x0 j = max (w0 x0) (w1 x0) := by
  have hj : j = ValueIdx.ix1 0 := by
    rw [ValueIdx.eq_ix1 j]; exact congrArg ValueIdx.ix1 (Subsingleton.elim (α := Fin 1) _ _)
  subst hj
  have e : val_main_v0 (F := Ideal) x0 (ValueIdx.ix1 0) = Finset.univ.fold max (val_main_cst (F := Ideal) (Shape.Idx.first (by decide))) fun k : Fin 2 => x0 (ValueIdx.ix2 0 k) := by
    unfold val_main_v0
    generalize val_main_cst (F := Ideal) = c
    simp only [pointwise]
    exact congrArg (fun f : Fin 2 → EReal => Finset.univ.fold max (c (Shape.Idx.first h_S_)) f) (funext fun k => congrArg x0 (ValueIdx.eq_ix2 _))
  rw [e, val_main_cst_apply]
  show Finset.univ.fold max (Ideal.ofBits .f32 0xFF800000#32) (fun k : Fin 2 => x0 (ValueIdx.ix2 0 k)) = _
  rw [neg_inf_bits, show (Finset.univ : Finset (Fin 2)) = {0, 1} from rfl, Finset.fold_insert (by decide), Finset.fold_singleton]
  show max (w0 x0) (max (w1 x0) ⊥) = _
  rw [max_bot_right]
theorem larger' (j : S1x2.Idx) : val_main_v4 (F := Ideal) x0 j = max (w0 x0) (w1 x0) := by
  rw [val_main_v4_apply, val_main_v3_apply, val_main_v2_apply, larger, val_main_v1_apply, val_main_cst_0_apply]
  show max (Ideal.ofBits .f32 0xFF800000#32) _ = _
  rw [neg_inf_bits, max_bot_left]
/-- A score's share before the quotient. -/
theorem weight_at (j : S1x2.Idx) : val_main_v6 (F := Ideal) x0 j = Ideal.exp (x0 j - max (w0 x0) (w1 x0)) := by
  rw [val_main_v6_apply, val_main_v5_apply, larger']; rfl
/-- The mixing probability. -/
theorem mix_at : val_main_v13 (F := Ideal) x0 (ValueIdx.ix1 n) = mixP (w0 x0) (w1 x0) := by
  rw [val_main_v13_apply]
  have e : val_main_v12 (F := Ideal) x0 (idx_main_v13 (ValueIdx.ix1 n)) = val_main_v10 (F := Ideal) x0 (ValueIdx.ix2 0 1) := by
    unfold val_main_v12
    refine (shapeCast_apply _ shapeCasts_S1x1_S_ _ (ValueIdx.ix2 0 0) ?_).trans ?_
    · have h1 : (S1x1.rowMajor (ValueIdx.ix2 0 0)).val < 1 := (S1x1.rowMajor (ValueIdx.ix2 0 0)).isLt
      have h2 : (S_.rowMajor (idx_main_v13 (ValueIdx.ix1 n))).val < 1 := (S_.rowMajor (idx_main_v13 (ValueIdx.ix1 n))).isLt
      omega
    · rw [val_main_v11_apply]
      exact congrArg (val_main_v10 (F := Ideal) x0) (ValueIdx.eq_ix2 _)
  rw [e, val_main_v10_apply, weight_at, val_main_v9_apply, val_main_v8_apply, val_main_v7_apply, val_main_cst_1_apply, Fin.sum_univ_two,
    weight_at, weight_at]
  have e0 : idx_main_v7 (idx_main_v8 (idx_main_v9 (ValueIdx.ix2 0 1))) 0 = ValueIdx.ix2 0 0 := ValueIdx.eq_ix2 _
  have e1 : idx_main_v7 (idx_main_v8 (idx_main_v9 (ValueIdx.ix2 0 1))) 1 = ValueIdx.ix2 0 1 := ValueIdx.eq_ix2 _
  rw [e0, e1]
  show Ideal.div _ (Ideal.ofBits .f32 0x00000000#32 + _) = _
  rw [Ideal.ofBits_zero_f32, zero_add]; rfl
/-- The mask. -/
theorem mask_at (k : Fin 2) : val_main_call10_v0 (F := Ideal) x0 x1 (ValueIdx.ix2 n k) = Ideal.cmp .olt (x1 (ValueIdx.ix1 n)) (mixP (w0 x0) (w1 x0)) := by
  rw [val_main_call10_v0_apply, val_main_v174_apply]
  have e : idx_main_v174 (idx_main_call10_v0 (ValueIdx.ix2 n k)) = ValueIdx.ix1 n := ValueIdx.eq_ix1 _
  rw [e, val_main_v14_apply, mix_at]; rfl
/-- The other sample. -/
theorem gauss_at (k : Fin 2) : val_main_v173 (F := Ideal) x3 (ValueIdx.ix2 n k) = x3 (ValueIdx.ix2 n k) * Ideal.sqrt (Ideal.ofBits .f32 0x3DCCCCCD#32) := by
  rw [val_main_v173_apply, val_main_v172_apply, val_main_v171_apply, val_main_cst_38_apply]; rfl

/-- The coordinates from the draws. -/
theorem coord_at (q : S4194304x2.Idx) : val_main_v18 (F := Ideal) x2 q = coord (x2 q) := by
  rw [val_main_v18_apply, val_main_v16_apply, val_main_v15_apply, val_main_cst_2_apply, val_main_v17_apply, val_main_cst_3_apply]
  show x2 q * Ideal.ofBits .f32 0x40000000#32 - Ideal.ofBits .f32 0x3F800000#32 = _
  rw [Ideal.ofBits_one_f32]; rfl
theorem xAt_eq : xAt x2 (ValueIdx.ix1 n) = coord (x2 (ValueIdx.ix2 n 0)) := by
  unfold xAt
  rw [val_main_v20_apply, val_main_v19_apply, coord_at]
  refine congrArg (fun q => coord (x2 q)) ((ValueIdx.eq_ix2 _).trans (congrArg₂ ValueIdx.ix2 (Fin.ext ?_) (Fin.ext ?_)))
  · show n.val / 1 = n.val; omega
  · rfl
theorem yAt_eq : yAt x2 (ValueIdx.ix1 n) = coord (x2 (ValueIdx.ix2 n 1)) := by
  unfold yAt
  rw [val_main_v22_apply, val_main_v21_apply, coord_at]
  refine congrArg (fun q => coord (x2 q)) ((ValueIdx.eq_ix2 _).trans (congrArg₂ ValueIdx.ix2 (Fin.ext ?_) (Fin.ext ?_)))
  · show n.val / 1 = n.val; omega
  · rfl

/-- The direction's two components in their columns. -/
theorem col0_at : val_main_v170 (F := Ideal) x2 (ValueIdx.ix2 n 0) = dirX (coord (x2 (ValueIdx.ix2 n 0))) (coord (x2 (ValueIdx.ix2 n 1))) := by
  unfold val_main_v170
  refine (concatenate_pair_apply_left _ _ _ concatenates_S4194304x1_S4194304x1_S4194304x2_d1 _ rfl (ValueIdx.ix2 n 0) (fun b => ?_)).trans ?_
  · match b with
    | ⟨0, _⟩ => rfl
    | ⟨1, _⟩ => rfl
  · rw [val_main_v168_apply]
    have e : idx_main_v168 (ValueIdx.ix2 n 0) = ValueIdx.ix1 n := ValueIdx.eq_ix1 _
    rw [e, dirX_at, xAt_eq, yAt_eq]
theorem col1_at : val_main_v170 (F := Ideal) x2 (ValueIdx.ix2 n 1) = dirY (coord (x2 (ValueIdx.ix2 n 0))) (coord (x2 (ValueIdx.ix2 n 1))) := by
  unfold val_main_v170
  refine (concatenate_pair_apply_right _ _ _ concatenates_S4194304x1_S4194304x1_S4194304x2_d1 _ rfl rfl (ValueIdx.ix2 n 0) (fun b hb => ?_) ?_).trans ?_
  · match b with
    | ⟨0, _⟩ => rfl
    | ⟨1, _⟩ => exact absurd rfl hb
  · rfl
  · rw [val_main_v169_apply]
    have e : idx_main_v169 (ValueIdx.ix2 n 0) = ValueIdx.ix1 n := ValueIdx.eq_ix1 _
    rw [e, dirY_at, xAt_eq, yAt_eq]

/-- The result's first component, -/
theorem res0_at : val_main_v175 (F := Ideal) x0 x1 x2 x3 (ValueIdx.ix2 n 0)
    = if x1 (ValueIdx.ix1 n) < mixP (w0 x0) (w1 x0) then dirX (coord (x2 (ValueIdx.ix2 n 0))) (coord (x2 (ValueIdx.ix2 n 1)))
      else x3 (ValueIdx.ix2 n 0) * Ideal.sqrt (Ideal.ofBits .f32 0x3DCCCCCD#32) := by
  rw [val_main_v175_apply, mask_at, KIdeal.select_olt, col0_at, gauss_at]
/-- and its second. -/
theorem res1_at : val_main_v175 (F := Ideal) x0 x1 x2 x3 (ValueIdx.ix2 n 1)
    = if x1 (ValueIdx.ix1 n) < mixP (w0 x0) (w1 x0) then dirY (coord (x2 (ValueIdx.ix2 n 0))) (coord (x2 (ValueIdx.ix2 n 1)))
      else x3 (ValueIdx.ix2 n 1) * Ideal.sqrt (Ideal.ofBits .f32 0x3DCCCCCD#32) := by
  rw [val_main_v175_apply, mask_at, KIdeal.select_olt, col1_at, gauss_at]

end Cert.Proof.RIdeal

end
-- ==== Proof.Bound.lean ====
/-
  How far the polynomials for a turn's cosine and sine lie from the cosine and the sine.
-/
module

public import proofs.«01_k».proof.Proof.Scalar
public import Mathlib.Analysis.SpecialFunctions.Trigonometric.Basic

@[expose] public section

noncomputable section

namespace Cert.Proof.Bound

/-! ## A polynomial on [0, 1/4], bounded on sixteen intervals -/

/-- The polynomial with these coefficients, the constant first. -/
def ev : List ℚ → ℝ → ℝ
  | [], _ => 0
  | c :: l, x => c + x * ev l x
/-- `c + (m + X) q`, -/
def lin (m : ℚ) : ℚ → List ℚ → List ℚ
  | c, [] => [c]
  | c, a :: q => (c + m * a) :: lin m a q
/-- and so the polynomial around `m`. -/
def around (m : ℚ) : List ℚ → List ℚ
  | [] => []
  | c :: l => lin m c (around m l)
/-- A bound of the polynomial at distance at most `r` from zero. -/
def bound (r : ℚ) : List ℚ → ℚ
  | [] => 0
  | c :: l => |c| + r * bound r l

theorem ev_lin (m : ℚ) (q : List ℚ) (h : ℝ) : ∀ c : ℚ, ev (lin m c q) h = c + (m + h) * ev q h := by
  induction q with
  | nil => intro c; simp [lin, ev]
  | cons a q ih => intro c; simp only [lin, ev, ih, Rat.cast_add, Rat.cast_mul]; ring
theorem ev_around (m : ℚ) (l : List ℚ) (h : ℝ) : ev (around m l) h = ev l (m + h) := by
  induction l with
  | nil => rfl
  | cons c l ih => simp only [around, ev_lin, ih, ev]
theorem ev_le (l : List ℚ) (r : ℚ) (h : ℝ) (hr : |h| ≤ r) : |ev l h| ≤ bound r l := by
  have r0 : (0 : ℝ) ≤ r := (abs_nonneg h).trans hr
  induction l with
  | nil => simp [ev, bound]
  | cons c l ih =>
    simp only [ev, bound, Rat.cast_add, Rat.cast_mul, Rat.cast_abs]
    refine (abs_add_le _ _).trans (add_le_add le_rfl ?_)
    rw [abs_mul]
    exact mul_le_mul hr ih (abs_nonneg _) r0

/-- A bound around each of the sixteen midpoints is one on the interval. -/
theorem ev_le_of_parts (l : List ℚ) (B : ℚ) (hB : ∀ i : Fin 16, bound (1 / 128) (around ((2 * i.val + 1) / 128) l) ≤ B)
    (z : ℝ) (h0 : 0 ≤ z) (h1 : z ≤ 1 / 4) : |ev l z| ≤ B := by
  obtain ⟨i, hi⟩ : ∃ i : Fin 16, |z - ((2 * i.val + 1) / 128 : ℚ)| ≤ (1 / 128 : ℚ) := by
    by_cases ht : z = 1 / 4
    · exact ⟨15, by subst ht; norm_num⟩
    · have hz : z * 64 < 16 := by have := lt_of_le_of_ne h1 ht; linarith
      have f0 : (0 : ℝ) ≤ z * 64 := by linarith
      refine ⟨⟨⌊z * 64⌋₊, (Nat.floor_lt f0).mpr (by exact_mod_cast hz)⟩, ?_⟩
      have a := Nat.floor_le f0
      have b := Nat.lt_floor_add_one (z * 64)
      push_cast
      rw [abs_le]
      constructor <;> linarith
  have e := ev_around ((2 * i.val + 1) / 128) l (z - ((2 * i.val + 1) / 128 : ℚ))
  rw [add_sub_cancel] at e
  rw [← e]
  exact (ev_le _ _ _ hi).trans (by exact_mod_cast hB i)

/-! ## The series -/

/-- The first `n` terms of the cosine's series, -/
def cosS (n : ℕ) (x : ℝ) : ℝ := ∑ k ∈ Finset.range n, (-1) ^ k * x ^ (2 * k) / (2 * k).factorial
/-- and of the sine's. -/
def sinS (n : ℕ) (x : ℝ) : ℝ := ∑ k ∈ Finset.range n, (-1) ^ k * x ^ (2 * k + 1) / (2 * k + 1).factorial

theorem series (n : ℕ) (x : ℝ) :
    ∑ k ∈ Finset.range (2 * n), ((x : ℂ) * Complex.I) ^ k / k.factorial = (cosS n x : ℂ) + (sinS n x : ℂ) * Complex.I := by
  induction n with
  | zero => simp [cosS, sinS]
  | succ n ih =>
    have hI : Complex.I ^ (2 * n) = (-1) ^ n := by rw [pow_mul, Complex.I_sq]
    rw [show 2 * (n + 1) = 2 * n + 1 + 1 by ring, Finset.sum_range_succ, Finset.sum_range_succ, ih, cosS, cosS, sinS, sinS,
      Finset.sum_range_succ, Finset.sum_range_succ, mul_pow, mul_pow, pow_succ Complex.I, hI]
    push_cast
    ring

/-- Twenty terms of the exponential's series bound ten of each, up to half a turn. -/
theorem near_series' (x : ℝ) (hx : |x| ≤ 3.1416) :
    |Real.cos x - cosS 10 x| ≤ |x| ^ 20 / 1000000000000000000 ∧ |Real.sin x - sinS 10 x| ≤ |x| ^ 20 / 1000000000000000000 := by
  have hn : ‖(x : ℂ) * Complex.I‖ = |x| := by simp
  have h := Complex.exp_bound' (x := (x : ℂ) * Complex.I) (n := 20) (by rw [hn]; norm_num; linarith)
  rw [show 20 = 2 * 10 from rfl, series 10 x, hn, Complex.exp_mul_I] at h
  have hb : |x| ^ (2 * 10) / (2 * 10).factorial * 2 ≤ |x| ^ 20 / 1000000000000000000 := by
    have f : ((2 * 10).factorial : ℝ) = 2432902008176640000 := by norm_num [Nat.factorial]
    have := pow_nonneg (abs_nonneg x) 20
    rw [f]
    norm_num
    linarith
  have e : Complex.cos x + Complex.sin x * Complex.I - ((cosS 10 x : ℂ) + (sinS 10 x : ℂ) * Complex.I)
      = ((Real.cos x - cosS 10 x : ℝ) : ℂ) + ((Real.sin x - sinS 10 x : ℝ) : ℂ) * Complex.I := by
    push_cast; ring
  rw [e] at h
  have hre := (Complex.abs_re_le_norm _).trans (h.trans hb)
  have him := (Complex.abs_im_le_norm _).trans (h.trans hb)
  simp only [Complex.add_re, Complex.mul_re, Complex.I_re, Complex.I_im, Complex.ofReal_re, Complex.ofReal_im, mul_zero, mul_one, sub_zero, add_zero] at hre
  simp only [Complex.add_im, Complex.mul_im, Complex.I_re, Complex.I_im, Complex.ofReal_re, Complex.ofReal_im, mul_zero, mul_one, zero_add, add_zero] at him
  exact ⟨hre, him⟩
/-- So ten terms of each are within 1e-8 up to half a turn. -/
theorem near_series (x : ℝ) (hx : |x| ≤ 3.1416) : |Real.cos x - cosS 10 x| ≤ 1e-8 ∧ |Real.sin x - sinS 10 x| ≤ 1e-8 := by
  have hb : |x| ^ 20 / 1000000000000000000 ≤ 1e-8 := by
    have : |x| ^ 20 ≤ 3.1416 ^ 20 := pow_le_pow_left₀ (abs_nonneg x) hx _
    norm_num at this ⊢
    linarith
  exact ⟨(near_series' x hx).1.trans hb, (near_series' x hx).2.trans hb⟩

/-- Pi to nine places, from the cosine's signs on both sides of its half. -/
theorem pi_bounds : 3.141592652 < Real.pi ∧ Real.pi < 3.141592654 := by
  have two := Real.pi_le_four
  have one := Real.two_le_pi
  constructor
  · by_contra h
    have h' : Real.pi / 2 ≤ 1.570796326 := by norm_num at h ⊢; linarith
    have c := Real.cos_nonpos_of_pi_div_two_le_of_le h' (by norm_num; linarith)
    have d := (near_series' 1.570796326 (by norm_num [abs_of_pos])).1
    rw [abs_of_pos (by norm_num : (0 : ℝ) < 1.570796326)] at d
    have e := (abs_le.mp d).1
    simp only [cosS, Finset.sum_range_succ, Finset.sum_range_zero, Nat.factorial] at e
    norm_num at c e
    linarith
  · by_contra h
    have h' : 1.570796327 ≤ Real.pi / 2 := by norm_num at h ⊢; linarith
    have c := Real.cos_nonneg_of_neg_pi_div_two_le_of_le (by norm_num; linarith) h'
    have d := (near_series' 1.570796327 (by norm_num [abs_of_pos])).1
    rw [abs_of_pos (by norm_num : (0 : ℝ) < 1.570796327)] at d
    have e := (abs_le.mp d).2
    simp only [cosS, Finset.sum_range_succ, Finset.sum_range_zero, Nat.factorial] at e
    norm_num at c e
    linarith

/-! ## The two polynomials against the series -/

/-- The float32 nearest to two pi. -/
def K : ℚ := 13176795 / 2097152

/-- The cosine's polynomial less ten terms of the series, in the square of the fraction of a turn, -/
def gapC : List ℚ := [16777207 / 16777216 - 1, -10348939 / 524288 + K ^ 2 / 2, 8510585 / 131072 - K ^ 4 / 24, -5589957 / 65536 + K ^ 6 / 720,
  15443573 / 262144 - K ^ 8 / 40320, -11158433 / 524288 + K ^ 10 / 3628800, -(K ^ 12 / 479001600), K ^ 14 / 87178291200,
  -(K ^ 16 / 20922789888000), K ^ 18 / 6402373705728000]
/-- and the sine's, divided by that fraction. -/
def gapS : List ℚ := [6588397 / 1048576 - K, -10837457 / 262144 + K ^ 3 / 6, 10695595 / 131072 - K ^ 5 / 120, -5021798 / 65536 + K ^ 7 / 5040,
  10853667 / 262144 - K ^ 9 / 362880, -13187314 / 1048576 + K ^ 11 / 39916800, -(K ^ 13 / 6227020800), K ^ 15 / 1307674368000,
  -(K ^ 17 / 355687428096000), K ^ 19 / 121645100408832000]

theorem gapC_le (z : ℝ) (h0 : 0 ≤ z) (h1 : z ≤ 1 / 4) : |ev gapC z| ≤ 2.67e-6 := by
  have := ev_le_of_parts gapC (267 / 100000000) (by decide +kernel) z h0 h1
  norm_num at this ⊢
  exact this
theorem gapS_le (z : ℝ) (h0 : 0 ≤ z) (h1 : z ≤ 1 / 4) : |ev gapS z| ≤ 1.5e-6 := by
  have := ev_le_of_parts gapS (15 / 10000000) (by decide +kernel) z h0 h1
  norm_num at this ⊢
  exact this

/-- The polynomials as real functions of the fraction of a turn. -/
def cosR (w : ℝ) : ℝ := Pair.C0 + Pair.C1 * w ^ 2 + Pair.C2 * w ^ 4 + Pair.C3 * w ^ 6 + Pair.C4 * w ^ 8 + Pair.C5 * w ^ 10
def sinR (w : ℝ) : ℝ := w * (Pair.S0 + Pair.S1' * w ^ 2 + Pair.S2' * w ^ 4 + Pair.S3' * w ^ 6 + Pair.S4' * w ^ 8 + Pair.S5' * w ^ 10)

theorem cosR_eq (w : ℝ) : cosR w - cosS 10 (K * w) = ev gapC (w ^ 2) := by
  simp only [cosR, cosS, gapC, ev, Finset.sum_range_succ, Finset.sum_range_zero, Nat.factorial, Pair.C0, Pair.C1, Pair.C2, Pair.C3, Pair.C4, Pair.C5]
  push_cast
  ring
theorem sinR_eq (w : ℝ) : sinR w - sinS 10 (K * w) = w * ev gapS (w ^ 2) := by
  simp only [sinR, sinS, gapS, ev, Finset.sum_range_succ, Finset.sum_range_zero, Nat.factorial, Pair.S0, Pair.S1', Pair.S2', Pair.S3', Pair.S4', Pair.S5']
  push_cast
  ring

/-- Within half a turn the polynomials are within 2.7e-6 of the cosine and of the sine, the turn measured by the float32
    nearest to two pi. -/
theorem near (w : ℝ) (hw : |w| ≤ 1 / 2) : |cosR w - Real.cos (K * w)| ≤ 2.7e-6 ∧ |sinR w - Real.sin (K * w)| ≤ 2.7e-6 := by
  have hK : (K : ℝ) = 13176795 / 2097152 := by norm_num [K]
  have hx : |(K : ℝ) * w| ≤ 3.1416 := by
    rw [abs_mul, hK, abs_of_pos (by norm_num : (0 : ℝ) < 13176795 / 2097152)]
    norm_num
    linarith
  obtain ⟨hc, hs⟩ := near_series _ hx
  have z0 : 0 ≤ w ^ 2 := sq_nonneg w
  have z1 : w ^ 2 ≤ 1 / 4 := by
    have := pow_le_pow_left₀ (abs_nonneg w) hw 2
    rw [sq_abs] at this
    linarith
  constructor
  · have a := gapC_le _ z0 z1
    rw [← cosR_eq] at a
    have := abs_sub_le (cosR w) (cosS 10 (K * w)) (Real.cos (K * w))
    rw [abs_sub_comm] at hc
    norm_num at *
    linarith
  · have a := gapS_le _ z0 z1
    have b : |sinR w - sinS 10 (K * w)| ≤ 1 / 2 * 1.5e-6 := by
      rw [sinR_eq, abs_mul]
      exact mul_le_mul hw a (abs_nonneg _) (by norm_num)
    have := abs_sub_le (sinR w) (sinS 10 (K * w)) (Real.sin (K * w))
    rw [abs_sub_comm] at hs
    norm_num at *
    linarith

/-! ## Angles that differ a little -/

theorem abs_sin_le {x : ℝ} (hx : |x| ≤ 1) : |Real.sin x| ≤ |x| := by
  have key : ∀ y : ℝ, 0 ≤ y → y ≤ 1 → |Real.sin y| ≤ y := by
    intro y h0 h1
    have h := abs_le.mp (Real.sin_bound (x := y) (by rwa [abs_of_nonneg h0]))
    rw [abs_of_nonneg h0] at h
    have h3 : y ^ 5 ≤ y ^ 3 := pow_le_pow_of_le_one h0 h1 (by norm_num)
    have h4 : y ^ 3 ≤ y := by simpa using pow_le_pow_of_le_one h0 h1 (show 1 ≤ 3 by norm_num)
    have h5 : 0 ≤ y ^ 3 := pow_nonneg h0 3
    rw [abs_le]
    constructor <;> linarith [h.1, h.2]
  rcases le_total 0 x with h | h
  · rw [abs_of_nonneg h] at hx ⊢; exact key x h hx
  · have := key (-x) (by linarith) (by rwa [abs_of_nonpos h] at hx)
    rwa [Real.sin_neg, abs_neg, ← abs_of_nonpos h] at this

/-- Over a small difference of angles the cosine and the sine move by no more than it. -/
theorem cos_move (a d : ℝ) (hd : |d| ≤ 1) : |Real.cos (a + d) - Real.cos a| ≤ |d| := by
  have hs := abs_sin_le (x := d / 2) (by rw [abs_div, abs_two]; linarith)
  rw [abs_div, abs_two] at hs
  rw [Real.cos_sub_cos, show (a + d - a) / 2 = d / 2 by ring, abs_mul, abs_mul, abs_neg, abs_two]
  have := mul_le_mul (Real.abs_sin_le_one ((a + d + a) / 2)) hs (abs_nonneg _) zero_le_one
  linarith
theorem sin_move (a d : ℝ) (hd : |d| ≤ 1) : |Real.sin (a + d) - Real.sin a| ≤ |d| := by
  have := cos_move (a - Real.pi / 2) d hd
  rwa [show a - Real.pi / 2 + d = a + d - Real.pi / 2 by ring, Real.cos_sub_pi_div_two, Real.cos_sub_pi_div_two] at this

/-- What a turn measured by the float exceeds one by. -/
def excess : ℝ := K - 2 * Real.pi
theorem excess_le : |excess| ≤ 1.8e-7 := by
  have hK : (K : ℝ) = 13176795 / 2097152 := by norm_num [K]
  obtain ⟨a, b⟩ := pi_bounds
  rw [excess, hK, abs_le]
  norm_num at a b ⊢
  constructor <;> linarith

/-- The polynomials against the cosine and the sine of an angle that is off by a few excesses. -/
theorem near_off (w : ℝ) (hw : |w| ≤ 1 / 2) (j : ℝ) (hj : |j| ≤ 4) :
    |cosR w - Real.cos (K * w + j * excess)| ≤ 3.5e-6 ∧ |sinR w - Real.sin (K * w + j * excess)| ≤ 3.5e-6 := by
  have hd : |j * excess| ≤ 4 * 1.8e-7 := by
    rw [abs_mul]; exact mul_le_mul hj excess_le (abs_nonneg _) (by norm_num)
  have h1 : |j * excess| ≤ 1 := hd.trans (by norm_num)
  obtain ⟨hc, hs⟩ := near w hw
  constructor
  · have m := cos_move (K * w) _ h1
    rw [abs_sub_comm] at m
    have t := abs_sub_le (cosR w) (Real.cos (K * w)) (Real.cos (K * w + j * excess))
    norm_num at *
    linarith
  · have m := sin_move (K * w) _ h1
    rw [abs_sub_comm] at m
    have t := abs_sub_le (sinR w) (Real.sin (K * w)) (Real.sin (K * w + j * excess))
    norm_num at *
    linarith

section
variable (u : ℝ) (n : ℤ) (hn : |u - n| ≤ 1 / 2) (hu : |u| ≤ 2)
include hn hu

theorem whole_le : |(n : ℝ)| ≤ 5 / 2 := by
  have := abs_sub_abs_le_abs_sub (n : ℝ) u
  rw [abs_sub_comm] at this
  linarith

/-- At most two turns off, the polynomials of the distance to the nearest whole number of turns against the cosine and the
    sine of the angle, -/
theorem near_turns : |cosR (u - n) - Real.cos (K * u)| ≤ 3.5e-6 ∧ |sinR (u - n) - Real.sin (K * u)| ≤ 3.5e-6 := by
  have e : (K : ℝ) * u = K * (u - n) + n * excess + n * (2 * Real.pi) := by unfold excess; ring
  rw [e, Real.cos_add_int_mul_two_pi, Real.sin_add_int_mul_two_pi]
  exact near_off _ hn _ ((whole_le u n hn hu).trans (by norm_num))
/-- and of the angle taken from a whole turn. -/
theorem near_turns_back :
    |cosR (u - n) - Real.cos (K - K * u)| ≤ 3.5e-6 ∧ |-sinR (u - n) - Real.sin (K - K * u)| ≤ 3.5e-6 := by
  have e : (K : ℝ) - K * u = -(K * (u - n) + (n - 1) * excess + ((n - 1 : ℤ) : ℝ) * (2 * Real.pi)) := by
    unfold excess; push_cast; ring
  rw [e, Real.cos_neg, Real.sin_neg, Real.cos_add_int_mul_two_pi, Real.sin_add_int_mul_two_pi]
  have h1 : |(n : ℝ) - 1| ≤ 4 := by
    have a := abs_sub (n : ℝ) 1
    have := whole_le u n hn hu
    rw [abs_one] at a
    linarith
  obtain ⟨hc, hs⟩ := near_off _ hn _ h1
  refine ⟨hc, ?_⟩
  rw [← neg_sub', abs_neg]
  exact hs
end

end Cert.Proof.Bound

end
-- ==== Proof.Near.lean ====
/-
  The sampled direction with polynomials against the one with cosines and sines, on one pair over the extended reals.
-/
module

public import proofs.«01_k».proof.Proof.Bound

@[expose] public section

noncomputable section

namespace Cert.Proof.Pair

open Idealize.ShloMosaic Cert.Proof.Bound

/-- The float32 of four pi, of two pi and of the tolerance. -/
abbrev fourPi : EReal := Ideal.ofBits .f32 0x41490FDB#32
abbrev twoPi : EReal := Ideal.ofBits .f32 0x40C90FDB#32
abbrev tol : EReal := Ideal.ofBits .f32 0x368637BD#32

theorem fourPi_eq : fourPi = ((2 * K : ℝ) : EReal) := by
  simp [fourPi, Ideal.ofBits, Ideal.ieee, -EReal.coe_mul, K]; norm_num
theorem twoPi_eq : twoPi = ((K : ℝ) : EReal) := by
  simp [twoPi, Ideal.ofBits, Ideal.ieee, -EReal.coe_mul, K]; norm_num
theorem tol_eq : tol = ((8796093 / 2199023255552 : ℝ) : EReal) := by
  simp [tol, Ideal.ofBits, Ideal.ieee, -EReal.coe_mul]; norm_num

/-- The direction's first component with the cosine itself, -/
def trueX (x y : EReal) : EReal :=
  if ab y < ab x then x * Ideal.cos (Ideal.div (fourPi * y) x)
  else if x = 0 ∧ y = 0 then 0 else y * Ideal.cos (twoPi - Ideal.div (fourPi * x) y)
/-- and its second with the sine itself. -/
def trueY (x y : EReal) : EReal :=
  if ab y < ab x then x * Ideal.sin (Ideal.div (fourPi * y) x)
  else if x = 0 ∧ y = 0 then 0 else y * Ideal.sin (twoPi - Ideal.div (fourPi * x) y)

theorem ab_coe (r : ℝ) : ab (r : EReal) = ((|r| : ℝ) : EReal) := by
  rw [ab, abs_eq_max_neg, ← EReal.coe_neg]; exact (EReal.coe_strictMono.monotone.map_max).symm
theorem cosT_coe (w : ℝ) : cosT (w : EReal) = ((cosR w : ℝ) : EReal) := by
  unfold cosT powers cosR; norm_cast; ring
theorem sinT_coe (w : ℝ) : sinT (w : EReal) = ((sinR w : ℝ) : EReal) := by
  unfold sinT powers sinR; norm_cast; ring

/-- The nearest integer is at most a half away. -/
theorem round_near (u : ℝ) : |u - Ideal.roundHalfEven u| ≤ 1 / 2 := by
  have a := Int.floor_le u
  have b := Int.lt_floor_add_one u
  unfold Ideal.roundHalfEven
  dsimp only
  split_ifs <;> push_cast <;> rw [abs_le] <;> constructor <;> linarith

/-- The turn from a quotient of reals. -/
theorem lessWhole_coe {a b : ℝ} (hb : b ≠ 0) :
    lessWhole (2 * Ideal.div (a : EReal) b) = ((2 * (a / b) - Ideal.roundHalfEven (2 * (a / b)) : ℝ) : EReal) := by
  have e : 2 * Ideal.div (a : EReal) b = ((2 * (a / b) : ℝ) : EReal) := by
    rw [Ideal.div_coe hb, ← EReal.coe_mul, ← div_eq_mul_one_div]; norm_cast
  rw [lessWhole, e, Ideal.liftRound_coe]; norm_cast
/-- The angle from a quotient of reals. -/
theorem angle_coe {a b : ℝ} (hb : b ≠ 0) : Ideal.div (fourPi * (a : EReal)) b = ((K * (2 * (a / b)) : ℝ) : EReal) := by
  rw [fourPi_eq, ← EReal.coe_mul, Ideal.div_coe hb, ← EReal.coe_mul]
  congr 1; field_simp

theorem quot_le {a b : ℝ} (hb : b ≠ 0) (h : |a| ≤ |b|) : |2 * (a / b)| ≤ 2 := by
  have := (div_le_one (abs_pos.mpr hb)).mpr h
  rw [abs_mul, abs_two, abs_div]; linarith

/-- Two multiples of the larger coordinate, by numbers that close, are within the tolerance. -/
theorem scaled (r p q M : ℝ) (h : |p - q| ≤ 3.5e-6) (hM : |r| ≤ M) :
    ab ((r : EReal) * (p : EReal) - (r : EReal) * (q : EReal)) ≤ tol * (M : EReal) := by
  rw [tol_eq, ← EReal.coe_mul, ← EReal.coe_mul, ← EReal.coe_mul, ← EReal.coe_sub, ab_coe, EReal.coe_le_coe_iff, ← mul_sub, abs_mul, mul_comm]
  refine mul_le_mul (h.trans ?_) hM (abs_nonneg _) ?_ <;> norm_num

/-- What it is to be the same or within the tolerance, relative to the larger coordinate. -/
def Close (x y a b : EReal) : Prop := a = b ∨ ab (a - b) ≤ tol * max (ab x) (ab y)

theorem close_of_top {x y : EReal} (h : max (ab x) (ab y) = ⊤) (a b : EReal) : Close x y a b := by
  right
  rw [h, tol_eq, EReal.coe_mul_top_of_pos (by norm_num)]
  exact le_top

/-- On reals: the two components together. -/
theorem close_real (x y : ℝ) : Close x y (dirX x y) (trueX x y) ∧ Close x y (dirY x y) (trueY x y) := by
  have hm : max (ab (x : EReal)) (ab (y : EReal)) = ((max |x| |y| : ℝ) : EReal) := by
    rw [ab_coe, ab_coe]; exact (EReal.coe_strictMono.monotone.map_max).symm
  unfold Close dirX dirY trueX trueY
  rw [hm]
  by_cases h : ab (y : EReal) < ab (x : EReal)
  · have hx : x ≠ 0 := by have := ne_zero_of_dom h; exact_mod_cast this
    have hle : |y| ≤ |x| := by rw [ab_coe, ab_coe, EReal.coe_lt_coe_iff] at h; exact h.le
    obtain ⟨hc, hs⟩ := near_turns (2 * (y / x)) _ (round_near _) (quot_le hx hle)
    simp only [if_pos h, lessWhole_coe hx, angle_coe hx, cosT_coe, sinT_coe]
    exact ⟨Or.inr (scaled x _ _ _ hc (le_max_left _ _)), Or.inr (scaled x _ _ _ hs (le_max_left _ _))⟩
  · by_cases h0 : (x : EReal) = 0 ∧ (y : EReal) = 0
    · simp only [if_neg h, if_pos h0, true_or, and_self]
    · have hy : y ≠ 0 := by have := ne_zero_of_not_dom h h0; exact_mod_cast this
      have hle : |x| ≤ |y| := by rw [ab_coe, ab_coe, EReal.coe_lt_coe_iff] at h; exact not_lt.mp h
      obtain ⟨hc, hs⟩ := near_turns_back (2 * (x / y)) _ (round_near _) (quot_le hy hle)
      simp only [if_neg h, if_neg h0, lessWhole_coe hy, angle_coe hy, cosT_coe, sinT_coe, twoPi_eq, ← EReal.coe_sub]
      refine ⟨Or.inr (scaled y _ _ _ hc (le_max_right _ _)), Or.inr ?_⟩
      have e : -((y : EReal) * ((sinR (2 * (x / y) - Ideal.roundHalfEven (2 * (x / y))) : ℝ) : EReal))
          = (y : EReal) * ((-sinR (2 * (x / y) - Ideal.roundHalfEven (2 * (x / y))) : ℝ) : EReal) := by
        rw [← EReal.coe_mul, ← EReal.coe_mul, ← EReal.coe_neg, mul_neg]
      rw [e]
      exact scaled y _ _ _ hs (le_max_right _ _)

/-- The sampled direction is within the tolerance of the one with the cosine and the sine. -/
theorem close_dir (x y : EReal) : Close x y (dirX x y) (trueX x y) ∧ Close x y (dirY x y) (trueY x y) := by
  have inf : ∀ z : EReal, z = ⊤ ∨ z = ⊥ → ab z = ⊤ := by rintro z (rfl | rfl) <;> simp [ab]
  induction x with
  | bot => exact ⟨close_of_top (by rw [inf _ (Or.inr rfl)]; simp) _ _, close_of_top (by rw [inf _ (Or.inr rfl)]; simp) _ _⟩
  | top => exact ⟨close_of_top (by rw [inf _ (Or.inl rfl)]; simp) _ _, close_of_top (by rw [inf _ (Or.inl rfl)]; simp) _ _⟩
  | coe x =>
    induction y with
    | bot => exact ⟨close_of_top (by rw [inf ⊥ (Or.inr rfl)]; simp) _ _, close_of_top (by rw [inf ⊥ (Or.inr rfl)]; simp) _ _⟩
    | top => exact ⟨close_of_top (by rw [inf ⊤ (Or.inl rfl)]; simp) _ _, close_of_top (by rw [inf ⊤ (Or.inl rfl)]; simp) _ _⟩
    | coe y => exact close_real x y

end Cert.Proof.Pair

end
-- ==== Proof.PostAt.lean ====
/-
  The postcondition read at a pair's component.
-/
module

public import proofs.«01_k».proof.Proof.Gen.Post_near_true_angles
public import proofs.«01_k».proof.Proof.RefAt
public import proofs.«01_k».proof.Proof.Near

@[expose] public section

noncomputable section

namespace Cert.Proof.Post

open Cert.ReferenceIdeal Cert.ReferenceIdeal.Gen Cert.ReferenceIdeal.Read
open Idealize.ShloMosaic Cert.Proof.Pair Cert.Proof.RIdeal
open Cert.Proof.KIdeal (coord mixP)

variable (x0 : FVec Ideal S1x2 .f32) (x1 : FVec Ideal S4194304 .f32) (x2 x3 out : FVec Ideal S4194304x2 .f32)

/-- The direction's components as the postcondition selects them, over all pairs. -/
def colX : FVec Ideal S4194304 .f32 := fun i =>
  Scalar.select (val_main_v32 (F := Ideal) x2 i)
    (xAt x2 i * Ideal.cos (Ideal.div (fourPi * yAt x2 i) (val_main_v35 (F := Ideal) x2 i)))
    (Scalar.select (val_main_v34 (F := Ideal) x2 i)
      (yAt x2 i * Ideal.cos (twoPi - Ideal.div (fourPi * xAt x2 i) (val_main_v36 (F := Ideal) x2 i))) (Ideal.ofBits .f32 0x00000000#32))
def colY : FVec Ideal S4194304 .f32 := fun i =>
  Scalar.select (val_main_v32 (F := Ideal) x2 i)
    (xAt x2 i * Ideal.sin (Ideal.div (fourPi * yAt x2 i) (val_main_v35 (F := Ideal) x2 i)))
    (Scalar.select (val_main_v34 (F := Ideal) x2 i)
      (yAt x2 i * Ideal.sin (twoPi - Ideal.div (fourPi * xAt x2 i) (val_main_v36 (F := Ideal) x2 i))) (Ideal.ofBits .f32 0x00000000#32))
/-- The two side by side. -/
def cols : FVec Ideal S4194304x2 .f32 :=
  concatenate S4194304x2 1 [⟨S4194304x1, broadcastInDim S4194304x1 ![0] Cert.Post_near_true_angles.Facts.bcast_S4194304_S4194304x1_0 (colX x2)⟩,
    ⟨S4194304x1, broadcastInDim S4194304x1 ![0] Cert.Post_near_true_angles.Facts.bcast_S4194304_S4194304x1_0 (colY x2)⟩]
    Cert.Post_near_true_angles.Facts.concatenates_S4194304x1_S4194304x1_S4194304x2_d1
/-- reference.py's result, with the cosine and the sine. -/
def lit : FVec Ideal S4194304x2 .f32 := fun q =>
  Scalar.select (val_main_call10_v0 (F := Ideal) x0 x1 q) (cols x2 q) (val_main_v173 (F := Ideal) x3 q)

/-- The postcondition at a component. -/
theorem fn_at (q : S4194304x2.Idx) : Cert.Post_near_true_angles.fn (F := Ideal) x0 x1 x2 x3 out q
    = IntOp.ori (Ideal.cmp .oeq (out q) (lit x0 x1 x2 x3 q))
        (Ideal.cmp .ole (ab (out q - lit x0 x1 x2 x3 q)) (tol * max (ab (xAt x2 (ValueIdx.ix1 (q 0)))) (ab (yAt x2 (ValueIdx.ix1 (q 0)))))) := by
  obtain ⟨n, k, rfl⟩ : ∃ (n : Fin 4194304) (k : Fin 2), q = ValueIdx.ix2 n k := ⟨q 0, q 1, ValueIdx.eq_ix2 q⟩
  rfl

/-- The selected components on one pair. -/
theorem colX_at (i : S4194304.Idx) : colX x2 i = trueX (xAt x2 i) (yAt x2 i) := by
  unfold colX
  rw [safe_x_at, safe_y_at, first_at, second_at, Ideal.ofBits_zero_f32]
  simp only [select_bool]
  generalize xAt x2 i = x
  generalize yAt x2 i = y
  unfold trueX
  by_cases h : ab y < ab x
  · have hx := ne_zero_of_dom h
    simp [h, hx]
  · by_cases h0 : x = 0 ∧ y = 0
    · obtain ⟨rfl, rfl⟩ := h0
      simp
    · have hy := ne_zero_of_not_dom h h0
      simp [h, hy]
theorem colY_at (i : S4194304.Idx) : colY x2 i = trueY (xAt x2 i) (yAt x2 i) := by
  unfold colY
  rw [safe_x_at, safe_y_at, first_at, second_at, Ideal.ofBits_zero_f32]
  simp only [select_bool]
  generalize xAt x2 i = x
  generalize yAt x2 i = y
  unfold trueY
  by_cases h : ab y < ab x
  · have hx := ne_zero_of_dom h
    simp [h, hx]
  · by_cases h0 : x = 0 ∧ y = 0
    · obtain ⟨rfl, rfl⟩ := h0
      simp
    · have hy := ne_zero_of_not_dom h h0
      simp [h, hy]

variable (n : Fin 4194304)

/-- A column repeated along the new axis is read at its pair. -/
theorem column_at (f : FVec Ideal S4194304 .f32) (k : Fin 1) :
    broadcastInDim S4194304x1 ![0] Cert.Post_near_true_angles.Facts.bcast_S4194304_S4194304x1_0 f (ValueIdx.ix2 n k) = f (ValueIdx.ix1 n) :=
  congrArg f (ValueIdx.eq_ix1 _)

theorem cols0_at : cols x2 (ValueIdx.ix2 n 0) = trueX (coord (x2 (ValueIdx.ix2 n 0))) (coord (x2 (ValueIdx.ix2 n 1))) := by
  unfold cols
  refine (concatenate_pair_apply_left _ _ _ Cert.Post_near_true_angles.Facts.concatenates_S4194304x1_S4194304x1_S4194304x2_d1 _ rfl (ValueIdx.ix2 n 0) (fun b => ?_)).trans ?_
  · match b with
    | ⟨0, _⟩ => rfl
    | ⟨1, _⟩ => rfl
  · rw [column_at, colX_at, xAt_eq, yAt_eq]
theorem cols1_at : cols x2 (ValueIdx.ix2 n 1) = trueY (coord (x2 (ValueIdx.ix2 n 0))) (coord (x2 (ValueIdx.ix2 n 1))) := by
  unfold cols
  refine (concatenate_pair_apply_right _ _ _ Cert.Post_near_true_angles.Facts.concatenates_S4194304x1_S4194304x1_S4194304x2_d1 _ rfl rfl (ValueIdx.ix2 n 0) (fun b hb => ?_) ?_).trans ?_
  · match b with
    | ⟨0, _⟩ => rfl
    | ⟨1, _⟩ => exact absurd rfl hb
  · rfl
  · rw [column_at, colY_at, xAt_eq, yAt_eq]

/-- Closeness is what the postcondition asks at a component. -/
theorem word_of_close {x y a b : EReal} (h : Close x y a b) :
    IntOp.ori (Ideal.cmp .oeq a b) (Ideal.cmp .ole (ab (a - b)) (tol * max (ab x) (ab y))) = 1#1 := by
  show BitVec.ofBool (decide (a = b)) ||| BitVec.ofBool (decide (ab (a - b) ≤ tol * max (ab x) (ab y))) = 1#1
  rcases h with h | h
  · rw [decide_eq_true h]
    cases decide (ab (a - b) ≤ tol * max (ab x) (ab y)) <;> rfl
  · rw [decide_eq_true h]
    cases decide (a = b) <;> rfl

/-- The plain reference's result, polynomials and all, meets the postcondition. -/
theorem post_of_ref : Cert.Post_near_true_angles.fn (F := Ideal) x0 x1 x2 x3 (val_main_v175 (F := Ideal) x0 x1 x2 x3) = fun _ => 1#1 := by
  funext q
  obtain ⟨n, k, rfl⟩ : ∃ (n : Fin 4194304) (k : Fin 2), q = ValueIdx.ix2 n k := ⟨q 0, q 1, ValueIdx.eq_ix2 q⟩
  rw [fn_at]
  show IntOp.ori _ (Ideal.cmp .ole _ (tol * max (ab (xAt x2 (ValueIdx.ix1 n))) (ab (yAt x2 (ValueIdx.ix1 n))))) = 1#1
  refine word_of_close ?_
  rw [xAt_eq, yAt_eq]
  obtain ⟨cx, cy⟩ := close_dir (coord (x2 (ValueIdx.ix2 n 0))) (coord (x2 (ValueIdx.ix2 n 1)))
  unfold lit
  rw [mask_at, KIdeal.select_olt, gauss_at]
  match k with
  | 0 =>
    rw [res0_at, cols0_at]
    split_ifs
    · exact cx
    · exact Or.inl rfl
  | 1 =>
    rw [res1_at, cols1_at]
    split_ifs
    · exact cy
    · exact Or.inl rfl

end Cert.Proof.Post

end
-- ==== Proof.Value.lean ====
/-
  The two programs' results are equal over the extended reals, the reference's frame, and how near the result is to the
  one with cosines and sines.
-/
module

public import proofs.«01_k».proof.Proof.Layout
public import proofs.«01_k».proof.Proof.PostAt
public import Idealize.ShloMosaic.Lib.Quiescent

@[expose] public section

noncomputable section

namespace Cert.Proof

open Idealize.ShloMosaic Idealize.ShloMosaic.TcCoe Idealize.SL.Sem
open Cert.Proof.Pair Cert.Proof.KIdeal
open Cert.KernelIdeal (nD τ sig main_arg0 main_arg1 main_arg2 main_arg3)

variable (m : (ℓ : Loc nD τ sig) → Buf (Elt Ideal) ℓ) (ρ : Dev nD → PrngReg) (c : Dev nD)

/-- The kernel's arguments on one device, as arrays. -/
abbrev aW : FVec Ideal Cert.KernelIdeal.S1x2 .f32 := m ((c : Thread nD τ).loc main_arg0)
abbrev aX : FVec Ideal Cert.KernelIdeal.S4194304 .f32 := m ((c : Thread nD τ).loc main_arg1)
abbrev aP : FVec Ideal Cert.KernelIdeal.S4194304x2 .f32 := m ((c : Thread nD τ).loc main_arg2)
abbrev aG : FVec Ideal Cert.KernelIdeal.S4194304x2 .f32 := m ((c : Thread nD τ).loc main_arg3)

theorem prob_at (i : Cert.KernelIdeal.S8x128.Idx) : prob m ρ c i = mixP (aW m c (ValueIdx.ix2 0 0)) (aW m c (ValueIdx.ix2 0 1)) := by
  unfold prob
  rw [scoreA_eq, scoreB_eq]; rfl

/-- The kernel's result at a pair's first component, -/
theorem kernel0_at (n : Fin 4194304) : ofRows (F := Ideal) (outR m ρ c) (ValueIdx.ix2 n 0)
    = if aX m c (ValueIdx.ix1 n) < mixP (aW m c (ValueIdx.ix2 0 0)) (aW m c (ValueIdx.ix2 0 1)) then
        dirX (coord (aP m c (ValueIdx.ix2 n 0))) (coord (aP m c (ValueIdx.ix2 n 1)))
      else aG m c (ValueIdx.ix2 n 0) * Ideal.sqrt (Ideal.ofBits .f32 0x3DCCCCCD#32) := by
  rw [ofRows_at]
  unfold outR
  have hx : vX c (inX m ρ c) (chunkOf n) (hrow n) = aX m c (ValueIdx.ix1 n) :=
    (vX_at c _ n).trans ((congrFun (inX_eq m ρ c) _).trans (toLanes_at _ n))
  have h0 : vW c (inW m ρ c) (chunkOf n) (evenR.idx (hrow n)) = aP m c (ValueIdx.ix2 n 0) :=
    (vW_even c _ n).trans ((congrFun (inW_eq m ρ c) _).trans (toRows_at _ n 0))
  have h1 : vW c (inW m ρ c) (chunkOf n) (oddR.idx (hrow n)) = aP m c (ValueIdx.ix2 n 1) :=
    (vW_odd c _ n).trans ((congrFun (inW_eq m ρ c) _).trans (toRows_at _ n 1))
  have hg : vG c (inG m ρ c) (chunkOf n) (evenR.idx (hrow n)) = aG m c (ValueIdx.ix2 n 0) :=
    (vG_even c _ n).trans ((congrFun (inG_eq m ρ c) _).trans (toRows_at _ n 0))
  rw [out_even, evenV_at _ _ _ _ _ _ _ _ (prob_at m ρ c)]
  simp only [hx, h0, h1, hg]
  rfl
/-- and its second. -/
theorem kernel1_at (n : Fin 4194304) : ofRows (F := Ideal) (outR m ρ c) (ValueIdx.ix2 n 1)
    = if aX m c (ValueIdx.ix1 n) < mixP (aW m c (ValueIdx.ix2 0 0)) (aW m c (ValueIdx.ix2 0 1)) then
        dirY (coord (aP m c (ValueIdx.ix2 n 0))) (coord (aP m c (ValueIdx.ix2 n 1)))
      else aG m c (ValueIdx.ix2 n 1) * Ideal.sqrt (Ideal.ofBits .f32 0x3DCCCCCD#32) := by
  rw [ofRows_at]
  unfold outR
  have hx : vX c (inX m ρ c) (chunkOf n) (hrow n) = aX m c (ValueIdx.ix1 n) :=
    (vX_at c _ n).trans ((congrFun (inX_eq m ρ c) _).trans (toLanes_at _ n))
  have h0 : vW c (inW m ρ c) (chunkOf n) (evenR.idx (hrow n)) = aP m c (ValueIdx.ix2 n 0) :=
    (vW_even c _ n).trans ((congrFun (inW_eq m ρ c) _).trans (toRows_at _ n 0))
  have h1 : vW c (inW m ρ c) (chunkOf n) (oddR.idx (hrow n)) = aP m c (ValueIdx.ix2 n 1) :=
    (vW_odd c _ n).trans ((congrFun (inW_eq m ρ c) _).trans (toRows_at _ n 1))
  have hg : vG c (inG m ρ c) (chunkOf n) (oddR.idx (hrow n)) = aG m c (ValueIdx.ix2 n 1) :=
    (vG_odd c _ n).trans ((congrFun (inG_eq m ρ c) _).trans (toRows_at _ n 1))
  rw [out_odd, oddV_at _ _ _ _ _ _ _ _ (prob_at m ρ c)]
  simp only [hx, h0, h1, hg]
  rfl

/-- The kernel's result is the reference's on the same arguments. -/
theorem kernel_eq_ref : ofRows (F := Ideal) (outR m ρ c) = Cert.ReferenceIdeal.Read.val_main_v175 (F := Ideal) (aW m c) (aX m c) (aP m c) (aG m c) := by
  funext q
  obtain ⟨n, k, rfl⟩ : ∃ (n : Fin 4194304) (k : Fin 2), q = ValueIdx.ix2 n k := ⟨q 0, q 1, ValueIdx.eq_ix2 q⟩
  match k with
  | 0 => exact (kernel0_at m ρ c n).trans (RIdeal.res0_at _ _ _ _ n).symm
  | 1 => exact (kernel1_at m ρ c n).trans (RIdeal.res1_at _ _ _ _ n).symm

/-- The reference runs, its arguments end unchanged, every semaphore at zero: it declares none. -/
theorem frame_reference : Cert.quiescent_ReferenceIdeal (hReferenceIdeal := Cert.ReferenceIdeal.Gen.facts) := by
  intro m ρ _
  exact (θ_run Cert.ReferenceIdeal.defs _ _).mono
    (fun r h => ⟨fun c => ⟨(h c).2.1, (h c).2.2.1, (h c).2.2.2.1, (h c).2.2.2.2⟩, sem_eq_zero_of_no_sems (by decide) r.2⟩)
    (Cert.ReferenceIdeal.Value.run (F := Ideal) m ρ)

/-- The value claim. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => ofRows (F := Ideal) (outR m ρ c), ?_, ?_⟩
  · exact (θ_run Cert.KernelIdeal.defs _ _).mono (fun r h => h.1) (run_end (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3⟩ := hagree c
    refine (Cert.ReferenceIdeal.Read.val_main_v175_eq _).trans (Eq.trans ?_ (kernel_eq_ref m ρ c).symm)
    refine (congrArg₂ (fun a b => Cert.ReferenceIdeal.Read.val_main_v175 (F := Ideal) a b _ _) h0 h1).trans ?_
    exact congrArg₂ (fun a b => Cert.ReferenceIdeal.Read.val_main_v175 (F := Ideal) _ _ a b) h2 h3

/-- The result against reference.py's with the cosine and the sine. -/
theorem holds : Cert.holds_KernelIdeal_near_true_angles (hKernelIdeal := Cert.KernelIdeal.Gen.facts) (hPost_near_true_angles := Cert.Post_near_true_angles.Gen.facts) := by
  intro m ρ _
  refine (θ_run Cert.KernelIdeal.defs _ _).mono (fun r h c => ?_) (run_end (F := Ideal) m ρ)
  obtain ⟨hr, h0, h1, h2, h3⟩ := h.1 c
  refine ⟨h0, h1, h2, h3, ?_⟩
  refine (congrArg (Cert.Post_near_true_angles.fn (F := Ideal) (aW m c) (aX m c) (aP m c) (aG m c)) (hr.trans (kernel_eq_ref m ρ c))).trans ?_
  exact Post.post_of_ref _ _ _ _

end Cert.Proof

end
-- ==== Proof.lean ====
/-
  The certificate's proof.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Post_near_true_angles
public import proofs.«01_k».proof.Proof.Frames
public import proofs.«01_k».proof.Proof.Value

@[expose] public section

noncomputable section

theorem Cert.Proof.claim : Cert.Claim := ⟨Cert.Kernel.Gen.facts, Cert.KernelIdeal.Gen.facts, Cert.ReferenceIdeal.Gen.facts, Cert.Post_near_true_angles.Gen.facts, Cert.Proof.frame_bits, Cert.Proof.frame_ideal, Cert.Proof.frame_reference, trivial, Cert.Proof.algebraic, Cert.Proof.holds⟩

end
